-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scalable [hPre_scalable : Cert.Pre_scalable.Facts] (m : (ℓ : Loc Cert.KernelIdeal.nD Cert.KernelIdeal.τ Cert.KernelIdeal.sig) → Buf (Elt Ideal) ℓ) : Prop :=
  ∀ c : Dev Cert.KernelIdeal.nD,
    (Cert.Pre_scalable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_scalable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scalable [hPre_scalable : Cert.Pre_scalable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scalable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_scalable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scalable [hKernelIdeal : Cert.KernelIdeal.Facts] [hPre_scalable : Cert.Pre_scalable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scalable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scalable [hReferenceIdeal : Cert.ReferenceIdeal.Facts] [hPre_scalable : Cert.Pre_scalable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scalable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scalable [hKernelIdeal : Cert.KernelIdeal.Facts] [hReferenceIdeal : Cert.ReferenceIdeal.Facts] [hPre_scalable : Cert.Pre_scalable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scalable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scalable : Cert.Pre_scalable.Facts),
    quiescent_Kernel (hKernel := hKernel)
    ∧ quiescent_KernelIdeal (hKernelIdeal := hKernelIdeal)
    ∧ quiescent_KernelIdeal_pre_scalable (hKernelIdeal := hKernelIdeal) (hPre_scalable := hPre_scalable)
    ∧ quiescent_ReferenceIdeal (hReferenceIdeal := hReferenceIdeal)
    ∧ quiescent_ReferenceIdeal_pre_scalable (hReferenceIdeal := hReferenceIdeal) (hPre_scalable := hPre_scalable)
    ∧ preserves_Kernel_KernelIdeal
    ∧ algebraic_KernelIdeal_ReferenceIdeal_pre_scalable (hKernelIdeal := hKernelIdeal) (hReferenceIdeal := hReferenceIdeal) (hPre_scalable := hPre_scalable)
-- ==== Pre_scalable.lean ====
abbrev S4x6144x4096 : Shape := ⟨3, ![4, 6144, 4096]⟩
abbrev S4x6144x4608 : Shape := ⟨3, ![4, 6144, 4608]⟩
abbrev S768x32x4096 : Shape := ⟨3, ![768, 32, 4096]⟩
abbrev S_ : Shape := ⟨0, ![]⟩
abbrev S768x4096 : Shape := ⟨2, ![768, 4096]⟩
abbrev S768x32x4608 : Shape := ⟨3, ![768, 32, 4608]⟩
abbrev S768x4608 : Shape := ⟨2, ![768, 4608]⟩

class Facts : Prop where
  bitsLt_bf16_f32 : FTy.bits .bf16 < FTy.bits .f32
  shapeCasts_S4x6144x4096_S768x32x4096 : S4x6144x4096.ShapeCasts S768x32x4096
  reducesTo_S768x32x4096_S768x4096_d1 : S768x32x4096.ReducesTo [1] S768x4096
  h_S_ : 0 < S_.numel
  bcast_S_S768x4096 : S_.BroadcastsInDim S768x4096 (![] : Fin 0 → Fin S768x4096.rank)
  shapeCasts_S4x6144x4608_S768x32x4608 : S4x6144x4608.ShapeCasts S768x32x4608
  reducesTo_S768x32x4608_S768x4608_d1 : S768x32x4608.ReducesTo [1] S768x4608
  bcast_S_S768x4608 : S_.BroadcastsInDim S768x4608 (![] : Fin 0 → Fin S768x4608.rank)

variable [Facts]

def fn_part1 {F : FTy → Type} [FloatOps F] (main_v13 : IVec S768x4096 1) (main_v17 : FVec F S768x4608 .f32) : IVec S768x4096 1 × IVec S768x4608 1 :=
  let main_cst_5 : FVec F S_ .f32 := constant S_ .f32 0x37924925#32
  let main_v18 : FVec F S768x4608 .f32 := broadcastInDim S768x4608 ![] bcast_S_S768x4608 main_cst_5
  let main_v19 : FVec F S768x4608 .f32 := mulf main_v17 main_v18
  let main_cst_6 : FVec F S_ .f32 := constant S_ .f32 0x00000000#32
  let main_v20 : FVec F S768x4608 .f32 := broadcastInDim S768x4608 ![] bcast_S_S768x4608 main_cst_6
  let main_v21 : IVec S768x4608 1 := cmpf .oeq main_v17 main_v20
  let main_cst_7 : FVec F S_ .f32 := constant S_ .f32 0x00800000#32
  let main_v22 : FVec F S768x4608 .f32 := broadcastInDim S768x4608 ![] bcast_S_S768x4608 main_cst_7
  let main_v23 : IVec S768x4608 1 := cmpf .oge main_v19 main_v22
  let main_cst_8 : FVec F S_ .f32 := constant S_ .f32 0x7E800000#32
  let main_v24 : FVec F S768x4608 .f32 := broadcastInDim S768x4608 ![] bcast_S_S768x4608 main_cst_8
  let main_v25 : IVec S768x4608 1 := cmpf .olt main_v19 main_v24
  let main_v26 : IVec S768x4608 1 := andi main_v23 main_v25
  let main_v27 : IVec S768x4608 1 := ori main_v21 main_v26
  (main_v13, main_v27)

def fn {F : FTy → Type} [FloatOps F] (main_arg0 : FVec F S4x6144x4096 .bf16) (main_arg1 : FVec F S4x6144x4608 .bf16) : IVec S768x4096 1 × IVec S768x4608 1 :=
  let main_v0 : FVec F S4x6144x4096 .f32 := (extf .f32 · bitsLt_bf16_f32) main_arg0
  let main_v1 : FVec F S768x32x4096 .f32 := shapeCast S768x32x4096 main_v0 shapeCasts_S4x6144x4096_S768x32x4096
  let main_v2 : FVec F S768x32x4096 .f32 := Host.absf main_v1
  let main_cst : FVec F S_ .f32 := constant S_ .f32 0xFF800000#32
  let main_v3 : FVec F S768x4096 .f32 := (fun x v => Host.reduce FloatOps.maximumf x v reducesTo_S768x32x4096_S768x4096_d1 h_S_) main_v2 main_cst
  let main_cst_0 : FVec F S_ .f32 := constant S_ .f32 0x3B124925#32
  let main_v4 : FVec F S768x4096 .f32 := broadcastInDim S768x4096 ![] bcast_S_S768x4096 main_cst_0
  let main_v5 : FVec F S768x4096 .f32 := mulf main_v3 main_v4
  let main_cst_1 : FVec F S_ .f32 := constant S_ .f32 0x00000000#32
  let main_v6 : FVec F S768x4096 .f32 := broadcastInDim S768x4096 ![] bcast_S_S768x4096 main_cst_1
  let main_v7 : IVec S768x4096 1 := cmpf .oeq main_v3 main_v6
  let main_cst_2 : FVec F S_ .f32 := constant S_ .f32 0x00800000#32
  let main_v8 : FVec F S768x4096 .f32 := broadcastInDim S768x4096 ![] bcast_S_S768x4096 main_cst_2
  let main_v9 : IVec S768x4096 1 := cmpf .oge main_v5 main_v8
  let main_cst_3 : FVec F S_ .f32 := constant S_ .f32 0x7E800000#32
  let main_v10 : FVec F S768x4096 .f32 := broadcastInDim S768x4096 ![] bcast_S_S768x4096 main_cst_3
  let main_v11 : IVec S768x4096 1 := cmpf .olt main_v5 main_v10
  let main_v12 : IVec S768x4096 1 := andi main_v9 main_v11
  let main_v13 : IVec S768x4096 1 := ori main_v7 main_v12
  let main_v14 : FVec F S4x6144x4608 .f32 := (extf .f32 · bitsLt_bf16_f32) main_arg1
  let main_v15 : FVec F S768x32x4608 .f32 := shapeCast S768x32x4608 main_v14 shapeCasts_S4x6144x4608_S768x32x4608
  let main_v16 : FVec F S768x32x4608 .f32 := Host.absf main_v15
  let main_cst_4 : FVec F S_ .f32 := constant S_ .f32 0xFF800000#32
  let main_v17 : FVec F S768x4608 .f32 := (fun x v => Host.reduce FloatOps.maximumf x v reducesTo_S768x32x4608_S768x4608_d1 h_S_) main_v16 main_cst_4
  fn_part1 (F := F) main_v13 main_v17
-- ==== Kernel.lean ====
abbrev S4x6144x4096 : Shape := ⟨3, ![4, 6144, 4096]⟩
abbrev S4x6144x4608 : Shape := ⟨3, ![4, 6144, 4608]⟩
abbrev S24576x4096 : Shape := ⟨2, ![24576, 4096]⟩
abbrev S24576x4608 : Shape := ⟨2, ![24576, 4608]⟩
abbrev S4096x4608 : Shape := ⟨2, ![4096, 4608]⟩
abbrev S768x4096 : Shape := ⟨2, ![768, 4096]⟩
abbrev S768x4608 : Shape := ⟨2, ![768, 4608]⟩
abbrev S512x1024 : Shape := ⟨2, ![512, 1024]⟩
abbrev S512x4608 : Shape := ⟨2, ![512, 4608]⟩
abbrev S16x1024 : Shape := ⟨2, ![16, 1024]⟩
abbrev S16x4608 : Shape := ⟨2, ![16, 4608]⟩
abbrev S1024x4608 : Shape := ⟨2, ![1024, 4608]⟩
abbrev S1024x512 : Shape := ⟨2, ![1024, 512]⟩
abbrev S_ : Shape := ⟨0, ![]⟩
abbrev S512x128 : Shape := ⟨2, ![512, 128]⟩
abbrev S16x2x16x128 : Shape := ⟨4, ![16, 2, 16, 128]⟩
abbrev S16x1x16x128 : Shape := ⟨4, ![16, 1, 16, 128]⟩
abbrev S16x16x128 : Shape := ⟨3, ![16, 16, 128]⟩
abbrev S16x128 : Shape := ⟨2, ![16, 128]⟩
abbrev S16x32x128 : Shape := ⟨3, ![16, 32, 128]⟩
abbrev S16x1x128 : Shape := ⟨3, ![16, 1, 128]⟩
abbrev S128x512 : Shape := ⟨2, ![128, 512]⟩
abbrev S512x512 : Shape := ⟨2, ![512, 512]⟩

abbrev nBuf : Space → Nat
  | .hbm => 9
  | .vmem => 17
  | .smem => 0
  | _ => 0

abbrev bufTy : (tb : Table) → Fin (tcTables nBuf tb) → BufTy
  | .hbm, ⟨0, _⟩ => ⟨S4x6144x4096, .bf16⟩
  | .hbm, ⟨1, _⟩ => ⟨S4x6144x4608, .bf16⟩
  | .hbm, ⟨2, _⟩ => ⟨S24576x4096, .bf16⟩
  | .hbm, ⟨3, _⟩ => ⟨S24576x4608, .bf16⟩
  | .hbm, ⟨4, _⟩ => ⟨S4096x4608, .f32⟩
  | .hbm, ⟨5, _⟩ => ⟨S24576x4096, .fp8e4m3⟩
  | .hbm, ⟨6, _⟩ => ⟨S768x4096, .f32⟩
  | .hbm, ⟨7, _⟩ => ⟨S24576x4608, .fp8e5m2⟩
  | .hbm, ⟨8, _⟩ => ⟨S768x4608, .f32⟩
  | .local _ .vmem, ⟨0, _⟩ => ⟨S512x1024, .bf16⟩
  | .local _ .vmem, ⟨1, _⟩ => ⟨S512x1024, .bf16⟩
  | .local _ .vmem, ⟨2, _⟩ => ⟨S512x4608, .bf16⟩
  | .local _ .vmem, ⟨3, _⟩ => ⟨S512x4608, .bf16⟩
  | .local _ .vmem, ⟨4, _⟩ => ⟨S512x1024, .fp8e4m3⟩
  | .local _ .vmem, ⟨5, _⟩ => ⟨S512x1024, .fp8e4m3⟩
  | .local _ .vmem, ⟨6, _⟩ => ⟨S16x1024, .f32⟩
  | .local _ .vmem, ⟨7, _⟩ => ⟨S16x1024, .f32⟩
  | .local _ .vmem, ⟨8, _⟩ => ⟨S512x4608, .fp8e5m2⟩
  | .local _ .vmem, ⟨9, _⟩ => ⟨S512x4608, .fp8e5m2⟩
  | .local _ .vmem, ⟨10, _⟩ => ⟨S16x4608, .f32⟩
  | .local _ .vmem, ⟨11, _⟩ => ⟨S16x4608, .f32⟩
  | .local _ .vmem, ⟨12, _⟩ => ⟨S1024x4608, .f32⟩
  | .local _ .vmem, ⟨13, _⟩ => ⟨S1024x512, .bf16⟩
  | .local _ .vmem, ⟨14, _⟩ => ⟨S1024x512, .bf16⟩
  | .local _ .vmem, ⟨15, _⟩ => ⟨S512x4608, .bf16⟩
  | .local _ .vmem, ⟨16, _⟩ => ⟨S512x4608, .bf16⟩
  | _, _ => ⟨S4x6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![193], ![false]⟩

def k0_cond2 (i : grid0.Coords) : BitVec 1 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let v2 : BitVec 32 := Scalar.remsi v1 c48_i32
  let c0_i32_4 : BitVec 32 := 0#32
  let v8 : BitVec 1 := Scalar.cmpi .eq v2 c0_i32_4
  let c0_i32_0 : BitVec 32 := 0#32
  let v3 : BitVec 32 := Scalar.maxsi v0 c0_i32_0
  let c48_i32_1 : BitVec 32 := 48#32
  let v4 : BitVec 32 := Scalar.divsi v3 c48_i32_1
  let c0_i32_5 : BitVec 32 := 0#32
  let v9 : BitVec 1 := Scalar.cmpi .sgt v4 c0_i32_5
  let v10 : BitVec 1 := Scalar.andi v8 v9
  let v11 : BitVec 32 := Scalar.extui v10
  let c0_i32_6 : BitVec 32 := 0#32
  let v12 : BitVec 1 := Scalar.cmpi .ne v11 c0_i32_6
  v12

def k0_off1 (i : grid0.Coords) : Fin 2 → Nat :=
  let arg0 : BitVec 32 := BitVec.ofNat 32 (i 0).val
  let c1_i32 : BitVec 32 := 1#32
  let v0 : BitVec 32 := Scalar.subi arg0 c1_i32
  let c0_i32_0 : BitVec 32 := 0#32
  let v3 : BitVec 32 := Scalar.maxsi v0 c0_i32_0
  let c48_i32_1 : BitVec 32 := 48#32
  let v4 : BitVec 32 := Scalar.divsi v3 c48_i32_1
  let c1_i32_17 : BitVec 32 := 1#32
  let v33 : BitVec 32 := Scalar.subi v4 c1_i32_17
  let c1024_i32 : BitVec 32 := 1024#32
  let v34 : BitVec 32 := Scalar.muli v33 c1024_i32
  let c0_i32_18 : BitVec 32 := 0#32
  ![v34.toNat, 0]
def k0_cond5 (i : grid0.Coords) : BitVec 1 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let v2 : BitVec 32 := Scalar.remsi v1 c48_i32
  let c47_i32 : BitVec 32 := 47#32
  let v25 : BitVec 1 := Scalar.cmpi .eq v2 c47_i32
  let c0_i32_14 : BitVec 32 := 0#32
  let v26 : BitVec 1 := Scalar.cmpi .sgt arg0 c0_i32_14
  let v27 : BitVec 1 := Scalar.andi v25 v26
  let v28 : BitVec 32 := Scalar.extui v27
  let c0_i32_15 : BitVec 32 := 0#32
  let v29 : BitVec 1 := Scalar.cmpi .ne v28 c0_i32_15
  v29

def k0_off2 (i : grid0.Coords) : Fin 2 → Nat :=
  let arg0 : BitVec 32 := BitVec.ofNat 32 (i 0).val
  let c1_i32 : BitVec 32 := 1#32
  let v0 : BitVec 32 := Scalar.subi arg0 c1_i32
  let c0_i32_0 : BitVec 32 := 0#32
  let v3 : BitVec 32 := Scalar.maxsi v0 c0_i32_0
  let c48_i32_1 : BitVec 32 := 48#32
  let v4 : BitVec 32 := Scalar.divsi v3 c48_i32_1
  let c1024_i32 : BitVec 32 := 1024#32
  let v33 : BitVec 32 := Scalar.muli v4 c1024_i32
  let c0_i32_17 : BitVec 32 := 0#32
  ![v33.toNat, 0]
def k0_cond6 (i : grid0.Coords) : BitVec 1 :=
  let arg0 : BitVec 32 := BitVec.ofNat 32 (i 0).val
  let c192_i32 : BitVec 32 := 192#32
  let v30 : BitVec 1 := Scalar.cmpi .eq arg0 c192_i32
  let v31 : BitVec 32 := Scalar.extui v30
  let c0_i32_16 : BitVec 32 := 0#32
  let v32 : BitVec 1 := Scalar.cmpi .ne v31 c0_i32_16
  v32

def k0_off3 (i : grid0.Coords) : Fin 2 → Nat :=
  let arg0 : BitVec 32 := BitVec.ofNat 32 (i 0).val
  let c1_i32 : BitVec 32 := 1#32
  let v0 : BitVec 32 := Scalar.subi arg0 c1_i32
  let c0_i32_0 : BitVec 32 := 0#32
  let v3 : BitVec 32 := Scalar.maxsi v0 c0_i32_0
  let c48_i32_1 : BitVec 32 := 48#32
  let v4 : BitVec 32 := Scalar.divsi v3 c48_i32_1
  let c1024_i32 : BitVec 32 := 1024#32
  let v33 : BitVec 32 := Scalar.muli v4 c1024_i32
  let c0_i32_17 : BitVec 32 := 0#32
  ![v33.toNat, 0]
def k0_cond1 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c0_i32_7 : BitVec 32 := 0#32
  let v13 : BitVec 1 := Scalar.cmpi .sgt arg0 c0_i32_7
  let c2_i32 : BitVec 32 := 2#32
  let v14 : BitVec 32 := Scalar.remsi arg0 c2_i32
  let c1_i32_8 : BitVec 32 := 1#32
  let v15 : BitVec 1 := Scalar.cmpi .eq v14 c1_i32_8
  let v16 : BitVec 1 := Scalar.andi v13 v15
  let v17 : BitVec 32 := Scalar.extui v16
  let c0_i32_9 : BitVec 32 := 0#32
  let v18 : BitVec 1 := Scalar.cmpi .ne v17 c0_i32_9
  v18

def k0_cond4 (i : grid0.Coords) : BitVec 1 :=
  let arg0 : BitVec 32 := BitVec.ofNat 32 (i 0).val
  let c0_i32_10 : BitVec 32 := 0#32
  let v19 : BitVec 1 := Scalar.cmpi .sgt arg0 c0_i32_10
  let c2_i32_11 : BitVec 32 := 2#32
  let v20 : BitVec 32 := Scalar.remsi arg0 c2_i32_11
  let c0_i32_12 : BitVec 32 := 0#32
  let v21 : BitVec 1 := Scalar.cmpi .eq v20 c0_i32_12
  let v22 : BitVec 1 := Scalar.andi v19 v21
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c191_i32 : BitVec 32 := 191#32
  let v0 : BitVec 32 := Scalar.minsi arg0 c191_i32
  let c48_i32 : BitVec 32 := 48#32
  let v1 : BitVec 32 := Scalar.remsi v0 c48_i32
  let c48_i32_0 : BitVec 32 := 48#32
  let v2 : BitVec 32 := Scalar.divsi v0 c48_i32_0
  let c0_i32 : BitVec 32 := 0#32
  ![v1.toNat, v2.toNat]

def cc0_transform_1 (i : grid0.Coords) : Fin 2 → Nat :=
  let arg0 : BitVec 32 := BitVec.ofNat 32 (i 0).val
  let c191_i32 : BitVec 32 := 191#32
  let v0 : BitVec 32 := Scalar.minsi arg0 c191_i32
  let c48_i32 : BitVec 32 := 48#32
  let v1 : BitVec 32 := Scalar.remsi v0 c48_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c191_i32 : BitVec 32 := 191#32
  let v0 : BitVec 32 := Scalar.minsi arg0 c191_i32
  let c48_i32 : BitVec 32 := 48#32
  let v1 : BitVec 32 := Scalar.remsi v0 c48_i32
  let c48_i32_0 : BitVec 32 := 48#32
  let v2 : BitVec 32 := Scalar.divsi v0 c48_i32_0
  let c0_i32 : BitVec 32 := 0#32
  ![v1.toNat, v2.toNat]

def cc0_transform_4 (i : grid0.Coords) : Fin 2 → Nat :=
  let arg0 : BitVec 32 := BitVec.ofNat 32 (i 0).val
  let c191_i32 : BitVec 32 := 191#32
  let v0 : BitVec 32 := Scalar.minsi arg0 c191_i32
  let c48_i32 : BitVec 32 := 48#32
  let v1 : BitVec 32 := Scalar.remsi v0 c48_i32
  let c48_i32_0 : BitVec 32 := 48#32
  let v2 : BitVec 32 := Scalar.divsi v0 c48_i32_0
  let c0_i32 : BitVec 32 := 0#32
  ![v1.toNat, v2.toNat]

def cc0_transform_5 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4608 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x4608 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x6144x4096 : Shape := ⟨3, ![4, 6144, 4096]⟩
abbrev S4x6144x4608 : Shape := ⟨3, ![4, 6144, 4608]⟩
abbrev S24576x4096 : Shape := ⟨2, ![24576, 4096]⟩
abbrev S24576x4608 : Shape := ⟨2, ![24576, 4608]⟩
abbrev S4096x4608 : Shape := ⟨2, ![4096, 4608]⟩
abbrev S768x4096 : Shape := ⟨2, ![768, 4096]⟩
abbrev S768x4608 : Shape := ⟨2, ![768, 4608]⟩
abbrev S768x32x4096 : Shape := ⟨3, ![768, 32, 4096]⟩
abbrev S768x1x4096 : Shape := ⟨3, ![768, 1, 4096]⟩
abbrev S768x32x4608 : Shape := ⟨3, ![768, 32, 4608]⟩
abbrev S768x1x4608 : Shape := ⟨3, ![768, 1, 4608]⟩

abbrev nBuf : Space → Nat
  | .hbm => 9
  | .vmem => 7
  | .smem => 0
  | _ => 0

abbrev bufTy : (tb : Table) → Fin (tcTables nBuf tb) → BufTy
  | .hbm, ⟨0, _⟩ => ⟨S4x6144x4096, .bf16⟩
  | .hbm, ⟨1, _⟩ => ⟨S4x6144x4608, .bf16⟩
  | .hbm, ⟨2, _⟩ => ⟨S24576x4096, .bf16⟩
  | .hbm, ⟨3, _⟩ => ⟨S24576x4608, .bf16⟩
  | .hbm, ⟨4, _⟩ => ⟨S4096x4608, .f32⟩
  | .hbm, ⟨5, _⟩ => ⟨S24576x4096, .fp8e4m3⟩
  | .hbm, ⟨6, _⟩ => ⟨S768x4096, .f32⟩
  | .hbm, ⟨7, _⟩ => ⟨S24576x4608, .fp8e5m2⟩
  | .hbm, ⟨8, _⟩ => ⟨S768x4608, .f32⟩
  | .local _ .vmem, ⟨0, _⟩ => ⟨S24576x4096, .bf16⟩
  | .local _ .vmem, ⟨1, _⟩ => ⟨S24576x4608, .bf16⟩
  | .local _ .vmem, ⟨2, _⟩ => ⟨S4096x4608, .f32⟩
  | .local _ .vmem, ⟨3, _⟩ => ⟨S24576x4096, .fp8e4m3⟩
  | .local _ .vmem, ⟨4, _⟩ => ⟨S768x4096, .f32⟩
  | .local _ .vmem, ⟨5, _⟩ => ⟨S24576x4608, .fp8e5m2⟩
  | .local _ .vmem, ⟨6, _⟩ => ⟨S768x4608, .f32⟩
  | _, _ => ⟨S4x6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S24576x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x4608 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Blocks.lean ====
module

public import proofs.«01_k».proof.Proof.Gen.KernelIdeal.Frame

/-!
# The kernel as a composition of tile programs

The printed kernel is one long list of statements. This module names the pieces it is made of: the
quantisation of one tile of 512 rows by 128 columns, the preparation of one such tile of either
operand, one matmul tile of 512 columns, and the sequence of these that one grid point runs.
-/

@[expose] public section

set_option maxRecDepth 16384

noncomputable section

namespace Cert.KernelIdeal.Hand

open Cert.KernelIdeal
open Idealize.ShloMosaic Idealize.SL.Sem
open Facts₀ Facts

variable {F : FTy → Type} [FloatOps F] [Facts]

/-! ## The quantisation of one tile -/

/-- The largest magnitude of each block of 32 rows of each column of a tile. -/
def tmax (v : FVec F S512x128 .bf16) : FVec F S16x128 .f32 :=
  multiReduction .maximumf [1] S16x128
    (extf .f32 (maximumf
      (shapeCast S16x16x128 (extractStridedSlice S16x1x16x128 ![0, 0, 0, 0]
        (shapeCast S16x2x16x128 (absf v) shapeCasts_S512x128_S16x2x16x128) slices_S16x2x16x128_o0_0_0_0_S16x1x16x128) shapeCasts_S16x1x16x128_S16x16x128)
      (shapeCast S16x16x128 (extractStridedSlice S16x1x16x128 ![0, 1, 0, 0]
        (shapeCast S16x2x16x128 (absf v) shapeCasts_S512x128_S16x2x16x128) slices_S16x2x16x128_o0_1_0_0_S16x1x16x128) shapeCasts_S16x1x16x128_S16x16x128))
      bitsLt_bf16_f32)
    0xFF800000#32 reduces_S16x16x128_S16x128 (.inl rfl) rfl

/-- One step of the search for the exponent bits of `q`: keep the candidate bit unless `q` is less
    than the float it makes. -/
def bitStep (q : FVec F S16x128 .f32) (b : BitVec 32) (e : IVec S16x128 32) : IVec S16x128 32 :=
  select (cmpf .olt q (bitcastToFloat .f32 (ori e (broadcast S16x128 b)))) e (ori e (broadcast S16x128 b))

/-- The exponent bits of `q`, found from the highest bit to the lowest. -/
def expBits (q : FVec F S16x128 .f32) : IVec S16x128 32 :=
  bitStep q 8388608#32 (bitStep q 16777216#32 (bitStep q 33554432#32 (bitStep q 67108864#32
    (bitStep q 134217728#32 (bitStep q 268435456#32 (bitStep q 536870912#32 (bitStep q 1073741824#32
      (broadcast S16x128 0#32))))))))

/-- The scale of each block: the power of two above `q`, or one where the exponent bits are zero. -/
def scaleOf (e : IVec S16x128 32) : FVec F S16x128 .f32 :=
  select (cmpi .eq e (broadcast S16x128 0#32)) (broadcast S16x128 (Scalar.ofBits .f32 0x3F800000#32))
    (bitcastToFloat .f32 (addi e (broadcast S16x128 8388608#32)))

/-- The reciprocal of the scale of each block. -/
def invOf (e : IVec S16x128 32) : FVec F S16x128 .f32 :=
  select (cmpi .eq e (broadcast S16x128 0#32)) (broadcast S16x128 (Scalar.ofBits .f32 0x3F800000#32))
    (bitcastToFloat .f32 (subi (broadcast S16x128 2122317824#32) e))

/-- The scaled value of each maximum: `c` is the reciprocal of the format's largest number. -/
def qOf (c : BitVec 32) (v : FVec F S512x128 .bf16) : FVec F S16x128 .f32 :=
  mulf (tmax v) (broadcast S16x128 (Scalar.ofBits .f32 c))

/-- A factor per block, rounded to bf16 and repeated over the block's 32 rows. -/
def spread (s : FVec F S16x128 .f32) : FVec F S16x32x128 .bf16 :=
  broadcastTo S16x32x128 (shapeCast S16x1x128 (truncf .bf16 s bitsLt_bf16_f32) shapeCasts_S16x128_S16x1x128) broadcasts_S16x1x128_S16x32x128

/-- The codes of a tile in the 8-bit format `f`, clipped to `[lo, hi]`, blocks apart. -/
def codes3 (f : FTy) (hf : FTy.bits f < FTy.bits .bf16) (c : BitVec 32) (lo hi : BitVec 16) (v : FVec F S512x128 .bf16) : FVec F S16x32x128 f :=
  truncf f (minimumf (broadcast S16x32x128 (Scalar.ofBits .bf16 hi)) (maximumf (broadcast S16x32x128 (Scalar.ofBits .bf16 lo))
    (mulf (shapeCast S16x32x128 v shapeCasts_S512x128_S16x32x128) (spread (invOf (expBits (qOf c v))))))) hf

/-- The scales of a tile. -/
def scales (c : BitVec 32) (v : FVec F S512x128 .bf16) : FVec F S16x128 .f32 := scaleOf (expBits (qOf c v))

/-- The codes of a tile. -/
def codes (f : FTy) (hf : FTy.bits f < FTy.bits .bf16) (c : BitVec 32) (lo hi : BitVec 16) (v : FVec F S512x128 .bf16) : FVec F S512x128 f :=
  shapeCast S512x128 (codes3 f hf c lo hi v) shapeCasts_S16x32x128_S512x128

/-- The dequantised values of a tile. -/
def hats (f : FTy) (hf : FTy.bits f < FTy.bits .bf16) (c : BitVec 32) (lo hi : BitVec 16) (v : FVec F S512x128 .bf16) : FVec F S512x128 .bf16 :=
  shapeCast S512x128 (mulf (extf .bf16 (codes3 f hf c lo hi v) hf) (spread (scales c v))) shapeCasts_S16x32x128_S512x128

/-- A tile as loaded. -/
abbrev same (v : FVec F S512x128 .bf16) : FVec F S512x128 .bf16 := shapeCast S512x128 v shapeCasts_S512x128_S512x128

def dyCodes (v : FVec F S512x128 .bf16) : FVec F S512x128 .fp8e5m2 := codes .fp8e5m2 bitsLt_fp8e5m2_bf16 0x37924925#32 0xC760#16 0x4760#16 (same v)
def dyScales (v : FVec F S512x128 .bf16) : FVec F S16x128 .f32 := scales 0x37924925#32 (same v)
def dyHats (v : FVec F S512x128 .bf16) : FVec F S512x128 .bf16 := same (hats .fp8e5m2 bitsLt_fp8e5m2_bf16 0x37924925#32 0xC760#16 0x4760#16 (same v))
def xCodes (v : FVec F S512x128 .bf16) : FVec F S512x128 .fp8e4m3 := codes .fp8e4m3 bitsLt_fp8e4m3_bf16 0x3B124925#32 0xC3E0#16 0x43E0#16 (same v)
def xScales (v : FVec F S512x128 .bf16) : FVec F S16x128 .f32 := scales 0x3B124925#32 (same v)
def xHats (v : FVec F S512x128 .bf16) : FVec F S128x512 .bf16 :=
  shapeCast S128x512 (transpose S128x512 [1, 0] (hats .fp8e4m3 bitsLt_fp8e4m3_bf16 0x3B124925#32 0xC3E0#16 0x43E0#16 (same v)) transposes_S512x128_p1_0_S128x512) shapeCasts_S128x512_S128x512

/-! ## The tile programs -/

theorem inbDy {j : ℕ} (hj : j < 36) : ∀ a, (![0, 128 * j] : Fin 2 → Nat) a + S512x128.size a ≤ S512x4608.size a := by
  intro a; fin_cases a <;> simp [S512x128, S512x4608] <;> omega
theorem inbDyS {j : ℕ} (hj : j < 36) : ∀ a, (![0, 128 * j] : Fin 2 → Nat) a + S16x128.size a ≤ S16x4608.size a := by
  intro a; fin_cases a <;> simp [S16x128, S16x4608] <;> omega
theorem inbX {j : ℕ} (hj : j < 8) : ∀ a, (![0, 128 * j] : Fin 2 → Nat) a + S512x128.size a ≤ S512x1024.size a := by
  intro a; fin_cases a <;> simp [S512x128, S512x1024] <;> omega
theorem inbXS {j : ℕ} (hj : j < 8) : ∀ a, (![0, 128 * j] : Fin 2 → Nat) a + S16x128.size a ≤ S16x1024.size a := by
  intro a; fin_cases a <;> simp [S16x128, S16x1024] <;> omega
theorem inbXT {j : ℕ} (hj : j < 8) : ∀ a, (![128 * j, 0] : Fin 2 → Nat) a + S128x512.size a ≤ S1024x512.size a := by
  intro a; fin_cases a <;> simp [S128x512, S1024x512] <;> omega
theorem inbMm {j : ℕ} (hj : j < 9) : ∀ a, (![0, 512 * j] : Fin 2 → Nat) a + S512x512.size a ≤ S512x4608.size a := by
  intro a; fin_cases a <;> simp [S512x512, S512x4608] <;> omega
theorem inbAcc {j : ℕ} (hj : j < 9) : ∀ a, (![0, 512 * j] : Fin 2 → Nat) a + S1024x512.size a ≤ S1024x4608.size a := by
  intro a; fin_cases a <;> simp [S1024x512, S1024x4608] <;> omega

/-- The tile `j` of the 36 column tiles of a 512 by 4608 buffer. -/
abbrev rDy (j : ℕ) (hj : j < 36) : Rect S512x4608 := Rect.unit (s := S512x4608) ![0, 128 * j] S512x128.size (inbDy hj)
abbrev rDyS (j : ℕ) (hj : j < 36) : Rect S16x4608 := Rect.unit (s := S16x4608) ![0, 128 * j] S16x128.size (inbDyS hj)
abbrev rX (j : ℕ) (hj : j < 8) : Rect S512x1024 := Rect.unit (s := S512x1024) ![0, 128 * j] S512x128.size (inbX hj)
abbrev rXS (j : ℕ) (hj : j < 8) : Rect S16x1024 := Rect.unit (s := S16x1024) ![0, 128 * j] S16x128.size (inbXS hj)
abbrev rXT (j : ℕ) (hj : j < 8) : Rect S1024x512 := Rect.unit (s := S1024x512) ![128 * j, 0] S128x512.size (inbXT hj)
abbrev rMm (j : ℕ) (hj : j < 9) : Rect S512x4608 := Rect.unit (s := S512x4608) ![0, 512 * j] S512x512.size (inbMm hj)
abbrev rAcc (j : ℕ) (hj : j < 9) : Rect S1024x4608 := Rect.unit (s := S1024x4608) ![0, 512 * j] S1024x512.size (inbAcc hj)
abbrev rXTall : Rect S1024x512 := Rect.unit (s := S1024x512) ![0, 0] S1024x512.size inb_S1024x512_S1024x512_0_0

theorem packedDy {j : ℕ} (hj : j < 36) (p : ℕ) (hp : p ∣ 512) : (rDy j hj).PackedRows p :=
  .inr ⟨le_rfl, rfl, .inl ⟨dvd_zero p, hp⟩⟩
theorem packedX {j : ℕ} (hj : j < 8) (p : ℕ) (hp : p ∣ 512) : (rX j hj).PackedRows p :=
  .inr ⟨le_rfl, rfl, .inl ⟨dvd_zero p, hp⟩⟩
theorem packedXT {j : ℕ} (hj : j < 8) (p : ℕ) (hp : p ∣ 128) : (rXT j hj).PackedRows p :=
  .inr ⟨le_rfl, rfl, .inl ⟨(hp.mul_right j : p ∣ 128 * j), hp⟩⟩

/-- The effects of a kernel on a TensorCore. -/
abbrev KE (F : FTy → Type) [FloatOps F] := TpuEff nD τ sig (Elt F) Λ₀ .tc

section
variable (arg1 : Memref sig .tc .vmem S512x1024 .bf16) (arg2 : Memref sig .tc .vmem S512x4608 .bf16)
  (arg4 : Memref sig .tc .vmem S512x1024 .fp8e4m3) (harg4 : arg4.IsWhole) (arg5 : Memref sig .tc .vmem S16x1024 .f32)
  (arg6 : Memref sig .tc .vmem S512x4608 .fp8e5m2) (harg6 : arg6.IsWhole) (arg7 : Memref sig .tc .vmem S16x4608 .f32)
  (arg8 : Memref sig .tc .vmem S1024x4608 .f32)
  (xr : Memref sig .tc .vmem S1024x512 .bf16) (dr : Memref sig .tc .vmem S512x4608 .bf16)
  (xw : Memref sig .tc .vmem S1024x512 .bf16) (hxw : xw.IsWhole) (dw : Memref sig .tc .vmem S512x4608 .bf16) (hdw : dw.IsWhole)

/-- Quantise tile `j` of dy: its codes, its scales and its dequantised values. -/
def prepDy (j : ℕ) (hj : j < 36) : Prog (KE F) PUnit := do
  let v : Vec F S512x128 .bf16 ← Prog.lift (.load arg2 (rDy j hj).toLoadRect (View.loadsAt_vmem h_S512x128))
  let _ : Vec F S512x128 .fp8e5m2 ← Prog.lift (.load arg6 (rDy j hj).toLoadRect (View.loadsAt_vmem h_S512x128))
  Prog.lift (.store arg6 (rDy j hj) (dyCodes v) Finset.univ (View.stores_vmem h_S512x128 (harg6.storeExact_slice rfl _ (packedDy hj _ (by decide))) (fun _ => rfl)) (.inl rfl))
  let _ : Vec F S16x128 .f32 ← Prog.lift (.load arg7 (rDyS j hj).toLoadRect (View.loadsAt_vmem h_S16x128))
  Prog.lift (.store arg7 (rDyS j hj) (dyScales v) Finset.univ (View.stores_vmem_bits_univ h_S16x128 rfl) (.inl rfl))
  let _ : Vec F S512x128 .bf16 ← Prog.lift (.load dw (rDy j hj).toLoadRect (View.loadsAt_vmem h_S512x128))
  Prog.lift (.store dw (rDy j hj) (dyHats v) Finset.univ (View.stores_vmem h_S512x128 (hdw.storeExact_slice rfl _ (packedDy hj _ (by decide))) (fun _ => rfl)) (.inl rfl))

/-- Quantise tile `j` of x: its codes, its scales and its dequantised values, these transposed. -/
def prepX (j : ℕ) (hj : j < 8) : Prog (KE F) PUnit := do
  let v : Vec F S512x128 .bf16 ← Prog.lift (.load arg1 (rX j hj).toLoadRect (View.loadsAt_vmem h_S512x128))
  let _ : Vec F S512x128 .fp8e4m3 ← Prog.lift (.load arg4 (rX j hj).toLoadRect (View.loadsAt_vmem h_S512x128))
  Prog.lift (.store arg4 (rX j hj) (xCodes v) Finset.univ (View.stores_vmem h_S512x128 (harg4.storeExact_slice rfl _ (packedX hj _ (by decide))) (fun _ => rfl)) (.inl rfl))
  let _ : Vec F S16x128 .f32 ← Prog.lift (.load arg5 (rXS j hj).toLoadRect (View.loadsAt_vmem h_S16x128))
  Prog.lift (.store arg5 (rXS j hj) (xScales v) Finset.univ (View.stores_vmem_bits_univ h_S16x128 rfl) (.inl rfl))
  let _ : Vec F S128x512 .bf16 ← Prog.lift (.load xw (rXT j hj).toLoadRect (View.loadsAt_vmem h_S128x512))
  Prog.lift (.store xw (rXT j hj) (xHats v) Finset.univ (View.stores_vmem h_S128x512 (hxw.storeExact_slice rfl _ (packedXT hj _ (by decide))) (fun _ => rfl)) (.inl rfl))

/-- The product of the whole x operand with 512 columns of the dy operand. -/
def mmVal (a : FVec F S1024x512 .bf16) (b : FVec F S512x512 .bf16) : FVec F S1024x512 .f32 :=
  matmul dot_S1024x512_S512x512_S1024x512_1_0_0_1_n_n none a b (constant S1024x512 .f32 0x00000000#32)

/-- The new contents of a tile of the accumulator: the product alone at the first chunk (`z`), else added. -/
def accVal (z : BitVec 1) (d o : FVec F S1024x512 .f32) : FVec F S1024x512 .f32 :=
  shapeCast S1024x512 (Scalar.select z d (addf o d)) shapeCasts_S1024x512_S1024x512

/-- Accumulate tile `j` of the product. -/
def mm (z : BitVec 1) (j : ℕ) (hj : j < 9) : Prog (KE F) PUnit := do
  let a : Vec F S1024x512 .bf16 ← Prog.lift (.load xr rXTall.toLoadRect (View.loadsAt_vmem h_S1024x512))
  let b : Vec F S512x512 .bf16 ← Prog.lift (.load dr (rMm j hj).toLoadRect (View.loadsAt_vmem h_S512x512))
  let o : Vec F S1024x512 .f32 ← Prog.lift (.load arg8 (rAcc j hj).toLoadRect (View.loadsAt_vmem h_S1024x512))
  let _ : Vec F S1024x512 .f32 ← Prog.lift (.load arg8 (rAcc j hj).toLoadRect (View.loadsAt_vmem h_S1024x512))
  Prog.lift (.store arg8 (rAcc j hj) (accVal z (mmVal a b) o) Finset.univ (View.stores_vmem_bits_univ h_S1024x512 rfl) (.inl rfl))

/-- Four tiles of dy, from tile `4 * j`. -/
def dy4 (j : ℕ) (hj : j < 9) : Prog (KE F) PUnit := do
  prepDy arg2 arg6 harg6 arg7 dw hdw (4 * j) (by omega)
  prepDy arg2 arg6 harg6 arg7 dw hdw (4 * j + 1) (by omega)
  prepDy arg2 arg6 harg6 arg7 dw hdw (4 * j + 2) (by omega)
  prepDy arg2 arg6 harg6 arg7 dw hdw (4 * j + 3) (by omega)

/-- The first `n` groups of a grid point that only prepares. -/
def prepGroups : (n : ℕ) → n ≤ 8 → Prog (KE F) PUnit
  | 0, _ => pure ⟨⟩
  | n + 1, h => do
    prepGroups n (by omega)
    dy4 arg2 arg6 harg6 arg7 dw hdw n (by omega)
    prepX arg1 arg4 harg4 arg5 xw hxw n (by omega)

/-- The first `n` groups of a grid point that multiplies one chunk and prepares the next. -/
def stepGroups (z : BitVec 1) : (n : ℕ) → n ≤ 8 → Prog (KE F) PUnit
  | 0, _ => pure ⟨⟩
  | n + 1, h => do
    stepGroups z n (by omega)
    mm arg8 xr dr z n (by omega)
    dy4 arg2 arg6 harg6 arg7 dw hdw n (by omega)
    prepX arg1 arg4 harg4 arg5 xw hxw n (by omega)

/-- A grid point that only prepares. -/
def prepAll : Prog (KE F) PUnit := do
  prepGroups arg1 arg2 arg4 harg4 arg5 arg6 harg6 arg7 xw hxw dw hdw 8 le_rfl
  dy4 arg2 arg6 harg6 arg7 dw hdw 8 (by omega)

/-- A grid point that multiplies and prepares. -/
def stepAll (z : BitVec 1) : Prog (KE F) PUnit := do
  stepGroups arg1 arg2 arg4 harg4 arg5 arg6 harg6 arg7 arg8 xr dr xw hxw dw hdw z 8 le_rfl
  mm arg8 xr dr z 8 (by omega)
  dy4 arg2 arg6 harg6 arg7 dw hdw 8 (by omega)

end

/-! ## One grid point -/

/-- Whether the matmul's chunk is the first of its pass, as the kernel computes it. -/
def firstChunk (i : grid0.Coords) : BitVec 1 :=
  Scalar.cmpi .eq (Scalar.remsi (Scalar.maxsi (Scalar.subi (BitVec.ofNat 32 (i 0).val) 1#32) 0#32) 48#32) 0#32

/-- The number of the pass, as the kernel computes it. -/
def passWord (i : grid0.Coords) : BitVec 32 :=
  Scalar.divsi (Scalar.maxsi (Scalar.subi (BitVec.ofNat 32 (i 0).val) 1#32) 0#32) 48#32

/-- Whether this is the last grid point, as the kernel computes it. -/
def lastWord (i : grid0.Coords) : BitVec 32 := Scalar.extui (Scalar.cmpi .eq (BitVec.ofNat 32 (i 0).val) 192#32)

/-- The kernel at a grid point up to its last conditional, in named pieces. -/
def body271 (i : grid0.Coords) (arg1 : Memref sig .tc .vmem S512x1024 .bf16) (harg1 : arg1.IsWhole) (arg2 : Memref sig .tc .vmem S512x4608 .bf16) (harg2 : arg2.IsWhole) (arg3 : Memref sig .tc .hbm S4096x4608 .f32) (harg3 : arg3.IsWhole) (arg4 : Memref sig .tc .vmem S512x1024 .fp8e4m3) (harg4 : arg4.IsWhole) (arg5 : Memref sig .tc .vmem S16x1024 .f32) (harg5 : arg5.IsWhole) (arg6 : Memref sig .tc .vmem S512x4608 .fp8e5m2) (harg6 : arg6.IsWhole) (arg7 : Memref sig .tc .vmem S16x4608 .f32) (harg7 : arg7.IsWhole) (arg8 : Memref sig .tc .vmem S1024x4608 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S512x4608 .bf16) (harg11 : arg11.IsWhole) (arg12 : Memref sig .tc .vmem S512x4608 .bf16) (harg12 : arg12.IsWhole) (arg13 : DmaSems sig S_) :
    Prog (KE F) (Σ' (v4 : BitVec 32), BitVec 32) := do
  if h1 : k0_cond1 i = 1#1 then do
    prepAll arg1 arg2 arg4 harg4 arg5 arg6 harg6 arg7 arg9 harg9 arg11 harg11
  else do
    pure ⟨⟩
  if h2 : k0_cond2 i = 1#1 then do
    Prog.lift (.waitDma2 arg13.sem arg8 (arg3.slice (Rect.unit (s := S4096x4608) (k0_off1 i) S1024x4608.size (k0_off1_inb i h2)) (fun _ => rfl)) harg8.wordExact (View.wordExact_bits rfl))
    pure ⟨⟩
  else do
    pure ⟨⟩
  if h3 : k0_cond3 i = 1#1 then do
    stepAll arg1 arg2 arg4 harg4 arg5 arg6 harg6 arg7 arg8 arg9 arg11 arg10 harg10 arg12 harg12 (firstChunk i)
  else do
    pure ⟨⟩
  if h4 : k0_cond4 i = 1#1 then do
    stepAll arg1 arg2 arg4 harg4 arg5 arg6 harg6 arg7 arg8 arg10 arg12 arg9 harg9 arg11 harg11 (firstChunk i)
  else do
    pure ⟨⟩
  if h5 : k0_cond5 i = 1#1 then do
    Prog.lift (.enqueueDma arg8 (.here (arg3.slice (Rect.unit (s := S4096x4608) (k0_off2 i) S1024x4608.size (k0_off2_inb i h5)) (fun _ => rfl))) (.dma arg13.sem) harg8.wordExact (View.wordExact_bits rfl) ⟨Or.inl rfl, trivial⟩)
    pure ⟨⟩
  else do
    pure ⟨⟩
  pure ⟨passWord i, lastWord i⟩

/-- The kernel at a grid point, in named pieces. -/
def body (i : grid0.Coords) (arg1 : Memref sig .tc .vmem S512x1024 .bf16) (harg1 : arg1.IsWhole) (arg2 : Memref sig .tc .vmem S512x4608 .bf16) (harg2 : arg2.IsWhole) (arg3 : Memref sig .tc .hbm S4096x4608 .f32) (harg3 : arg3.IsWhole) (arg4 : Memref sig .tc .vmem S512x1024 .fp8e4m3) (harg4 : arg4.IsWhole) (arg5 : Memref sig .tc .vmem S16x1024 .f32) (harg5 : arg5.IsWhole) (arg6 : Memref sig .tc .vmem S512x4608 .fp8e5m2) (harg6 : arg6.IsWhole) (arg7 : Memref sig .tc .vmem S16x4608 .f32) (harg7 : arg7.IsWhole) (arg8 : Memref sig .tc .vmem S1024x4608 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S512x4608 .bf16) (harg11 : arg11.IsWhole) (arg12 : Memref sig .tc .vmem S512x4608 .bf16) (harg12 : arg12.IsWhole) (arg13 : DmaSems sig S_) :
    Prog (KE F) PUnit := do
  let ⟨v4, v31⟩ : Σ' (v4 : BitVec 32), BitVec 32 ← body271 i arg1 harg1 arg2 harg2 arg3 harg3 arg4 harg4 arg5 harg5 arg6 harg6 arg7 harg7 arg8 harg8 arg9 harg9 arg10 harg10 arg11 harg11 arg12 harg12 arg13
  if h6 : k0_cond6 i = 1#1 then do
    Prog.lift (.waitDma2 arg13.sem arg8 (arg3.slice (Rect.unit (s := S4096x4608) (k0_off3 i) S1024x4608.size (k0_off3_inb i h6)) (fun _ => rfl)) harg8.wordExact (View.wordExact_bits rfl))
    pure ⟨⟩
  else do
    pure ⟨⟩
  pure ⟨⟩

end Cert.KernelIdeal.Hand

end
-- ==== Proof.Tiles.lean ====
module

public import proofs.«01_k».proof.Proof.Blocks
public import Idealize.ShloMosaic.Lib.Pipeline.FrameBody
public import Idealize.ShloMosaic.Lib.Pointwise.Index
public import Idealize.ShloMosaic.Lib.Tactic

/-!
# What the tile programs do to the buffers

Each tile program replaces one tile of each of its result buffers. A buffer of which the first `n`
columns (or rows) hold a function `G` and the rest what was there before is `mix a n G X`; a tile
program moves the boundary by one tile. When all tiles are done the buffer holds `G`.
-/

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (Pipeline.UD sig nD τ) ℕ

/-- The weakest precondition of a kernel program on the TensorCore of device `c`. -/
abbrev WP (c : Dev nD) {α : Type} (p : Prog (KE F) α) (Q : α → sProp 𝕄) : sProp 𝕄 :=
  wp frame (wpE (defs₀ (F := F)) Variants.none (c : Thread nD τ) none) Set.univ p Q

/-! ## One load, one store -/

/-- A load of a rectangle of an owned buffer returns the contents there. -/
theorem lift_load (c : Dev nD) {cs : CoreSpace} {s : Shape} {e : EltTy} {m : Memref sig .tc cs s e} {r : Rect s}
    {hl : m.view.LoadsAt r.toLoadRect} {q : PosShare TreeShare} {X : s.Idx → Elt F e} {Q : (r.shape.Idx → Elt F e) → sProp 𝕄} :
    iprop(owns (c : Thread nD τ) m q X ∗ (owns (c : Thread nD τ) m q X -∗ Q (fun i => X (r.emb i))))
      ⊢ WP c (Prog.lift (.load m r.toLoadRect hl)) Q := by
  unfold owns
  iintro ⟨⟨%f, %hf, H⟩, HQ⟩
  subst hf
  iapply (wp_load Variants.none (c : Thread nD τ) none Set.univ (hl := hl) (S := m.view.set) (Finset.map_subset_map.mpr (Finset.subset_univ _))) $$ H
  iintro H
  iapply (le_wp_ret frame (wpE (defs₀ (F := F)) Variants.none (c : Thread nD τ) none) Set.univ (m.view.readAt (Elt F) r.toLoadRect f) Q)
  rw [show Q (m.view.readAt (Elt F) r.toLoadRect f) = Q (fun i => m.view.read (Elt F) f (r.emb i)) from rfl]
  iapply HQ
  iexists f
  isplitr
  · ipureintro; rfl
  · iexact H

/-- A store to a rectangle of an owned buffer replaces the contents there. -/
theorem lift_store (c : Dev nD) {cs : CoreSpace} {s : Shape} {e : EltTy} {m : Memref sig .tc cs s e} {r : Rect s}
    {w : r.shape.Idx → Elt F e} {hx : (m.access r).Stores Finset.univ}
    {hm : (Finset.univ : Finset r.shape.Idx) = Finset.univ ∨ ∀ a, r.stride a = 1} {X : s.Idx → Elt F e} {Q : PUnit → sProp 𝕄} :
    iprop(owns (c : Thread nD τ) m fullShare X ∗ (owns (c : Thread nD τ) m fullShare (r.overlay X w) -∗ Q ⟨⟩))
      ⊢ WP c (Prog.lift (.store m r w Finset.univ hx hm)) Q := by
  unfold owns
  iintro ⟨⟨%f, %hf, H⟩, HQ⟩
  subst hf
  iapply (wp_store Variants.none (c : Thread nD τ) none Set.univ (hx := hx) (hm := hm) (View.set_slice_subset _ r)) $$ H
  iintro H
  iapply (le_wp_ret frame (wpE (defs₀ (F := F)) Variants.none (c : Thread nD τ) none) Set.univ PUnit.unit Q)
  iapply HQ
  iexists _
  isplitr
  · ipureintro
    funext j
    by_cases hj : j ∈ r.set
    · rw [← Rect.map_emb_univ] at hj
      obtain ⟨i, -, rfl⟩ := Finset.mem_map.mp hj
      rw [Rect.overlay_emb]
      exact m.view.read_slice_write_emb r f w (Finset.mem_univ i)
    · rw [Rect.overlay_of_not_mem _ _ _ hj]
      exact m.view.read_slice_write_of_not_mem r f w Finset.univ (by rwa [Rect.map_emb_univ])
  · iexact H

/-- One program after another. -/
theorem wp_then (c : Dev nD) {p q : Prog (KE F) PUnit} {A B C : sProp 𝕄} (hp : A ⊢ WP c p fun _ => B) (hq : B ⊢ WP c q fun _ => C) :
    A ⊢ WP c (p >>= fun _ => q) fun _ => C := by
  unfold WP; rw [wp_bind]
  exact hp.trans (wp_mono _ _ _ fun _ => hq)

/-! ## Buffers filled tile by tile -/

/-- `G` where coordinate `a` is below `n`, and `X` elsewhere. -/
def mix {s : Shape} {α : Type} (a : Fin s.rank) (n : ℕ) (G X : s.Idx → α) : s.Idx → α :=
  fun i => if (i a).val < n then G i else X i

theorem mix_zero {s : Shape} {α : Type} (a : Fin s.rank) (G X : s.Idx → α) : mix a 0 G X = X := by
  funext i; simp [mix]
theorem mix_all {s : Shape} {α : Type} (a : Fin s.rank) {n : ℕ} (h : s.size a ≤ n) (G X : s.Idx → α) : mix a n G X = G := by
  funext i; exact if_pos (lt_of_lt_of_le (i a).isLt h)

/-- Writing `G`'s part of the next slab moves the boundary past it. -/
theorem overlay_mix {s : Shape} {α : Type} (a : Fin s.rank) {n n' : ℕ} (r : Rect s) (G X : s.Idx → α) (w : r.shape.Idx → α)
    (hn : n ≤ n') (hG : ∀ i, w i = G (r.emb i)) (hr : ∀ i : s.Idx, i ∈ r.set ↔ n ≤ (i a).val ∧ (i a).val < n') :
    r.overlay (mix a n G X) w = mix a n' G X := by
  funext i
  by_cases hi : i ∈ r.set
  · have h := (hr i).mp hi
    rw [← Rect.map_emb_univ] at hi
    obtain ⟨k, -, rfl⟩ := Finset.mem_map.mp hi
    rw [Rect.overlay_emb, hG, mix, if_pos h.2]
  · rw [Rect.overlay_of_not_mem _ _ _ hi, mix, mix]
    have := (hr i).not.mp hi
    by_cases h1 : (i a).val < n
    · rw [if_pos h1, if_pos (by omega)]
    · rw [if_neg h1, if_neg (by omega)]

/-- An array made of column tiles of width `T`. -/
def colTiles {R C T n : ℕ} {α : Type} (hC : C = T * n) (w : (j : ℕ) → j < n → (⟨2, ![R, T]⟩ : Shape).Idx → α) : (⟨2, ![R, C]⟩ : Shape).Idx → α :=
  fun i => w ((i 1).val / T) (Nat.div_lt_of_lt_mul (hC ▸ (i 1).isLt))
    (ix2 (i 0) ⟨(i 1).val % T, Nat.mod_lt _ (Nat.pos_of_ne_zero fun h => by have := (i 1).isLt; subst h; simp at hC; subst hC; exact absurd this (Nat.not_lt_zero _))⟩)

/-- An array made of row tiles of height `T`. -/
def rowTiles {R C T n : ℕ} {α : Type} (hR : R = T * n) (w : (j : ℕ) → j < n → (⟨2, ![T, C]⟩ : Shape).Idx → α) : (⟨2, ![R, C]⟩ : Shape).Idx → α :=
  fun i => w ((i 0).val / T) (Nat.div_lt_of_lt_mul (hR ▸ (i 0).isLt))
    (ix2 ⟨(i 0).val % T, Nat.mod_lt _ (Nat.pos_of_ne_zero fun h => by have := (i 0).isLt; subst h; simp at hR; subst hR; exact absurd this (Nat.not_lt_zero _))⟩ (i 1))

theorem colTiles_at {R C T n : ℕ} {α : Type} (hC : C = T * n) (w : (j : ℕ) → j < n → (⟨2, ![R, T]⟩ : Shape).Idx → α)
    (i : (⟨2, ![R, C]⟩ : Shape).Idx) (j : ℕ) (hj : j < n) (k : (⟨2, ![R, T]⟩ : Shape).Idx)
    (h0 : (i 0).val = (k 0).val) (h1 : (i 1).val = T * j + (k 1).val) : colTiles hC w i = w j hj k := by
  have hk : (k 1).val < T := (k 1).isLt
  have e1 : (i 1).val / T = j := by rw [h1, Nat.mul_add_div (by omega), Nat.div_eq_of_lt hk, Nat.add_zero]
  have e2 : (i 1).val % T = (k 1).val := by rw [h1, Nat.mul_add_mod, Nat.mod_eq_of_lt hk]
  subst e1
  unfold colTiles
  congr 1
  rw [eq_ix2 k]
  congr 1
  · exact Fin.ext h0
  · exact Fin.ext e2

theorem rowTiles_at {R C T n : ℕ} {α : Type} (hR : R = T * n) (w : (j : ℕ) → j < n → (⟨2, ![T, C]⟩ : Shape).Idx → α)
    (i : (⟨2, ![R, C]⟩ : Shape).Idx) (j : ℕ) (hj : j < n) (k : (⟨2, ![T, C]⟩ : Shape).Idx)
    (h0 : (i 0).val = T * j + (k 0).val) (h1 : (i 1).val = (k 1).val) : rowTiles hR w i = w j hj k := by
  have hk : (k 0).val < T := (k 0).isLt
  have e1 : (i 0).val / T = j := by rw [h0, Nat.mul_add_div (by omega), Nat.div_eq_of_lt hk, Nat.add_zero]
  have e2 : (i 0).val % T = (k 0).val := by rw [h0, Nat.mul_add_mod, Nat.mod_eq_of_lt hk]
  subst e1
  unfold rowTiles
  congr 1
  rw [eq_ix2 k]
  congr 1
  · exact Fin.ext e2
  · exact Fin.ext h1

/-- A full-height slab of columns. -/
theorem mem_cols {R C T o : ℕ} (inb : ∀ a, (![0, o] : Fin 2 → ℕ) a + (⟨2, ![R, T]⟩ : Shape).size a ≤ (⟨2, ![R, C]⟩ : Shape).size a)
    (i : (⟨2, ![R, C]⟩ : Shape).Idx) :
    i ∈ (Rect.unit (s := ⟨2, ![R, C]⟩) ![0, o] (⟨2, ![R, T]⟩ : Shape).size inb).set ↔ o ≤ (i 1).val ∧ (i 1).val < o + T := by
  rw [Rect.mem_set_unit]
  constructor
  · intro h; exact h 1
  · intro h a
    match a with
    | ⟨0, _⟩ => exact ⟨Nat.zero_le _, by have := (i 0).isLt; simpa using this⟩
    | ⟨1, _⟩ => exact h

/-- A full-width slab of rows. -/
theorem mem_rows {R C T o : ℕ} (inb : ∀ a, (![o, 0] : Fin 2 → ℕ) a + (⟨2, ![T, C]⟩ : Shape).size a ≤ (⟨2, ![R, C]⟩ : Shape).size a)
    (i : (⟨2, ![R, C]⟩ : Shape).Idx) :
    i ∈ (Rect.unit (s := ⟨2, ![R, C]⟩) ![o, 0] (⟨2, ![T, C]⟩ : Shape).size inb).set ↔ o ≤ (i 0).val ∧ (i 0).val < o + T := by
  rw [Rect.mem_set_unit]
  constructor
  · intro h; exact h 0
  · intro h a
    match a with
    | ⟨0, _⟩ => exact h
    | ⟨1, _⟩ => exact ⟨Nat.zero_le _, by have := (i 1).isLt; simpa using this⟩

theorem emb_unit_val {s : Shape} (off size : Fin s.rank → ℕ) (inb : ∀ a, off a + size a ≤ s.size a) (k : (Rect.unit off size inb).shape.Idx) (a : Fin s.rank) :
    ((Rect.unit off size inb).emb k a).val = off a + (k a).val := by
  show off a + 1 * (k a).val = _
  rw [Nat.one_mul]

/-- Writing column tile `j` of an array made of column tiles. -/
theorem overlay_col {R C T n : ℕ} {α : Type} (hC : C = T * n) (w : (j : ℕ) → j < n → (⟨2, ![R, T]⟩ : Shape).Idx → α) (j : ℕ) (hj : j < n)
    (inb : ∀ a, (![0, T * j] : Fin 2 → ℕ) a + (⟨2, ![R, T]⟩ : Shape).size a ≤ (⟨2, ![R, C]⟩ : Shape).size a) (X : (⟨2, ![R, C]⟩ : Shape).Idx → α) :
    (Rect.unit (s := ⟨2, ![R, C]⟩) ![0, T * j] (⟨2, ![R, T]⟩ : Shape).size inb).overlay (mix (s := ⟨2, ![R, C]⟩) 1 (T * j) (colTiles hC w) X) (w j hj)
      = mix (s := ⟨2, ![R, C]⟩) 1 (T * (j + 1)) (colTiles hC w) X := by
  refine overlay_mix (s := ⟨2, ![R, C]⟩) 1 _ _ _ _ (Nat.mul_le_mul_left _ (Nat.le_succ _)) (fun k => ?_) (fun i => ?_)
  · refine (colTiles_at hC w _ j hj k ?_ ?_).symm
    · exact (emb_unit_val _ _ inb k 0).trans (Nat.zero_add _)
    · exact emb_unit_val _ _ inb k 1
  · rw [mem_cols, Nat.mul_succ]

/-- Writing row tile `j` of an array made of row tiles. -/
theorem overlay_row {R C T n : ℕ} {α : Type} (hR : R = T * n) (w : (j : ℕ) → j < n → (⟨2, ![T, C]⟩ : Shape).Idx → α) (j : ℕ) (hj : j < n)
    (inb : ∀ a, (![T * j, 0] : Fin 2 → ℕ) a + (⟨2, ![T, C]⟩ : Shape).size a ≤ (⟨2, ![R, C]⟩ : Shape).size a) (X : (⟨2, ![R, C]⟩ : Shape).Idx → α) :
    (Rect.unit (s := ⟨2, ![R, C]⟩) ![T * j, 0] (⟨2, ![T, C]⟩ : Shape).size inb).overlay (mix (s := ⟨2, ![R, C]⟩) 0 (T * j) (rowTiles hR w) X) (w j hj)
      = mix (s := ⟨2, ![R, C]⟩) 0 (T * (j + 1)) (rowTiles hR w) X := by
  refine overlay_mix (s := ⟨2, ![R, C]⟩) 0 _ _ _ _ (Nat.mul_le_mul_left _ (Nat.le_succ _)) (fun k => ?_) (fun i => ?_)
  · refine (rowTiles_at hR w _ j hj k ?_ ?_).symm
    · exact emb_unit_val _ _ inb k 0
    · exact (emb_unit_val _ _ inb k 1).trans (Nat.zero_add _)
  · rw [mem_rows, Nat.mul_succ]

/-- Tile `j` of an array made of column tiles, before the boundary has reached it: what was there. -/
theorem mix_tile {R C T : ℕ} {α : Type} (j : ℕ) (G X : (⟨2, ![R, C]⟩ : Shape).Idx → α)
    (inb : ∀ a, (![0, T * j] : Fin 2 → ℕ) a + (⟨2, ![R, T]⟩ : Shape).size a ≤ (⟨2, ![R, C]⟩ : Shape).size a) :
    (fun k => mix (s := ⟨2, ![R, C]⟩) 1 (T * j) G X ((Rect.unit (s := ⟨2, ![R, C]⟩) ![0, T * j] (⟨2, ![R, T]⟩ : Shape).size inb).emb k))
      = fun k => X ((Rect.unit (s := ⟨2, ![R, C]⟩) ![0, T * j] (⟨2, ![R, T]⟩ : Shape).size inb).emb k) := by
  funext k
  refine if_neg ?_
  have : _ = T * j + _ := emb_unit_val (s := ⟨2, ![R, C]⟩) ![0, T * j] _ inb k 1
  omega

/-! ## The whole buffers a grid point computes -/

/-- The codes of all 36 tiles of a chunk of dy. -/
def dyC (Y : FVec F S512x4608 .bf16) : FVec F S512x4608 .fp8e5m2 :=
  colTiles (T := 128) (n := 36) rfl fun j hj => dyCodes (fun k => Y ((rDy j hj).emb k))
/-- The scales of all 36 tiles of a chunk of dy. -/
def dyS (Y : FVec F S512x4608 .bf16) : FVec F S16x4608 .f32 :=
  colTiles (T := 128) (n := 36) rfl fun j hj => dyScales (fun k => Y ((rDy j hj).emb k))
/-- The dequantised values of a chunk of dy. -/
def dyH (Y : FVec F S512x4608 .bf16) : FVec F S512x4608 .bf16 :=
  colTiles (T := 128) (n := 36) rfl fun j hj => dyHats (fun k => Y ((rDy j hj).emb k))
/-- The codes of all 8 tiles of a chunk of x. -/
def xC (X : FVec F S512x1024 .bf16) : FVec F S512x1024 .fp8e4m3 :=
  colTiles (T := 128) (n := 8) rfl fun j hj => xCodes (fun k => X ((rX j hj).emb k))
/-- The scales of all 8 tiles of a chunk of x. -/
def xS (X : FVec F S512x1024 .bf16) : FVec F S16x1024 .f32 :=
  colTiles (T := 128) (n := 8) rfl fun j hj => xScales (fun k => X ((rX j hj).emb k))
/-- The dequantised values of a chunk of x, transposed. -/
def xH (X : FVec F S512x1024 .bf16) : FVec F S1024x512 .bf16 :=
  rowTiles (T := 128) (n := 8) rfl fun j hj => xHats (fun k => X ((rX j hj).emb k))
/-- The accumulator after the 9 tiles of a chunk's product. -/
def accN (z : BitVec 1) (a : FVec F S1024x512 .bf16) (b : FVec F S512x4608 .bf16) (A : FVec F S1024x4608 .f32) : FVec F S1024x4608 .f32 :=
  colTiles (T := 512) (n := 9) rfl fun j hj => accVal z (mmVal (fun k => a (rXTall.emb k)) (fun k => b ((rMm j hj).emb k))) (fun k => A ((rAcc j hj).emb k))

/-! ## The triples -/

section
variable (c : Dev nD)
  (arg1 : Memref sig .tc .vmem S512x1024 .bf16) (arg2 : Memref sig .tc .vmem S512x4608 .bf16)
  (arg4 : Memref sig .tc .vmem S512x1024 .fp8e4m3) (harg4 : arg4.IsWhole) (arg5 : Memref sig .tc .vmem S16x1024 .f32)
  (arg6 : Memref sig .tc .vmem S512x4608 .fp8e5m2) (harg6 : arg6.IsWhole) (arg7 : Memref sig .tc .vmem S16x4608 .f32)
  (arg8 : Memref sig .tc .vmem S1024x4608 .f32)
  (xr : Memref sig .tc .vmem S1024x512 .bf16) (dr : Memref sig .tc .vmem S512x4608 .bf16)
  (xw : Memref sig .tc .vmem S1024x512 .bf16) (hxw : xw.IsWhole) (dw : Memref sig .tc .vmem S512x4608 .bf16) (hdw : dw.IsWhole)
  (z : BitVec 1)
  (X : FVec F S512x1024 .bf16) (Y : FVec F S512x4608 .bf16)
  (o4 : FVec F S512x1024 .fp8e4m3) (o5 : FVec F S16x1024 .f32) (o6 : FVec F S512x4608 .fp8e5m2) (o7 : FVec F S16x4608 .f32)
  (A : FVec F S1024x4608 .f32) (a : FVec F S1024x512 .bf16) (b : FVec F S512x4608 .bf16) (ox : FVec F S1024x512 .bf16) (od : FVec F S512x4608 .bf16)

/-- The dy side of a grid point with the first `n` tiles done. -/
def stDy (n : ℕ) : sProp 𝕄 :=
  iprop(owns (c : Thread nD τ) arg2 fullShare Y
    ∗ owns (c : Thread nD τ) arg6 fullShare (mix (s := S512x4608) 1 (128 * n) (dyC Y) o6)
    ∗ owns (c : Thread nD τ) arg7 fullShare (mix (s := S16x4608) 1 (128 * n) (dyS Y) o7)
    ∗ owns (c : Thread nD τ) dw fullShare (mix (s := S512x4608) 1 (128 * n) (dyH Y) od))

/-- The x side of a grid point with the first `n` tiles done. -/
def stX (n : ℕ) : sProp 𝕄 :=
  iprop(owns (c : Thread nD τ) arg1 fullShare X
    ∗ owns (c : Thread nD τ) arg4 fullShare (mix (s := S512x1024) 1 (128 * n) (xC X) o4)
    ∗ owns (c : Thread nD τ) arg5 fullShare (mix (s := S16x1024) 1 (128 * n) (xS X) o5)
    ∗ owns (c : Thread nD τ) xw fullShare (mix (s := S1024x512) 0 (128 * n) (xH X) ox))

/-- The matmul side of a grid point with the first `n` tiles done. -/
def stMm (n : ℕ) : sProp 𝕄 :=
  iprop(owns (c : Thread nD τ) xr fullShare a
    ∗ owns (c : Thread nD τ) dr fullShare b
    ∗ owns (c : Thread nD τ) arg8 fullShare (mix (s := S1024x4608) 1 (512 * n) (accN z a b A) A))

theorem prepDy_ok (j : ℕ) (hj : j < 36) :
    stDy c arg2 arg6 arg7 dw Y o6 o7 od j ⊢ WP c (prepDy arg2 arg6 harg6 arg7 dw hdw j hj) fun _ => stDy c arg2 arg6 arg7 dw Y o6 o7 od (j + 1) := by
  unfold stDy prepDy WP
  simp only [wp_bind]
  iintro ⟨H2, H6, H7, Hd⟩
  iapply (lift_load c); isplitl [H2]; · iexact H2
  iintro H2
  iapply (lift_load c); isplitl [H6]; · iexact H6
  iintro H6
  iapply (lift_store c); isplitl [H6]; · iexact H6
  iintro H6
  iapply (lift_load c); isplitl [H7]; · iexact H7
  iintro H7
  iapply (lift_store c); isplitl [H7]; · iexact H7
  iintro H7
  iapply (lift_load c); isplitl [Hd]; · iexact Hd
  iintro Hd
  iapply (lift_store c); isplitl [Hd]; · iexact Hd
  iintro Hd
  isplitl [H2]; · iexact H2
  isplitl [H6]
  · rw [← show _ = mix (s := S512x4608) 1 (128 * (j + 1)) (dyC Y) o6 from
      overlay_col (T := 128) (n := 36) rfl (fun j hj => dyCodes (fun k => Y ((rDy j hj).emb k))) j hj (inbDy hj) o6]
    iexact H6
  isplitl [H7]
  · rw [← show _ = mix (s := S16x4608) 1 (128 * (j + 1)) (dyS Y) o7 from
      overlay_col (T := 128) (n := 36) rfl (fun j hj => dyScales (fun k => Y ((rDy j hj).emb k))) j hj (inbDyS hj) o7]
    iexact H7
  · rw [← show _ = mix (s := S512x4608) 1 (128 * (j + 1)) (dyH Y) od from
      overlay_col (T := 128) (n := 36) rfl (fun j hj => dyHats (fun k => Y ((rDy j hj).emb k))) j hj (inbDy hj) od]
    iexact Hd

theorem prepX_ok (j : ℕ) (hj : j < 8) :
    stX c arg1 arg4 arg5 xw X o4 o5 ox j ⊢ WP c (prepX arg1 arg4 harg4 arg5 xw hxw j hj) fun _ => stX c arg1 arg4 arg5 xw X o4 o5 ox (j + 1) := by
  unfold stX prepX WP
  simp only [wp_bind]
  iintro ⟨H1, H4, H5, Hx⟩
  iapply (lift_load c); isplitl [H1]; · iexact H1
  iintro H1
  iapply (lift_load c); isplitl [H4]; · iexact H4
  iintro H4
  iapply (lift_store c); isplitl [H4]; · iexact H4
  iintro H4
  iapply (lift_load c); isplitl [H5]; · iexact H5
  iintro H5
  iapply (lift_store c); isplitl [H5]; · iexact H5
  iintro H5
  iapply (lift_load c); isplitl [Hx]; · iexact Hx
  iintro Hx
  iapply (lift_store c); isplitl [Hx]; · iexact Hx
  iintro Hx
  isplitl [H1]; · iexact H1
  isplitl [H4]
  · rw [← show _ = mix (s := S512x1024) 1 (128 * (j + 1)) (xC X) o4 from
      overlay_col (T := 128) (n := 8) rfl (fun j hj => xCodes (fun k => X ((rX j hj).emb k))) j hj (inbX hj) o4]
    iexact H4
  isplitl [H5]
  · rw [← show _ = mix (s := S16x1024) 1 (128 * (j + 1)) (xS X) o5 from
      overlay_col (T := 128) (n := 8) rfl (fun j hj => xScales (fun k => X ((rX j hj).emb k))) j hj (inbXS hj) o5]
    iexact H5
  · rw [← show _ = mix (s := S1024x512) 0 (128 * (j + 1)) (xH X) ox from
      overlay_row (T := 128) (n := 8) rfl (fun j hj => xHats (fun k => X ((rX j hj).emb k))) j hj (inbXT hj) ox]
    iexact Hx

theorem mm_ok (j : ℕ) (hj : j < 9) :
    stMm c arg8 xr dr z A a b j ⊢ WP c (mm arg8 xr dr z j hj) fun _ => stMm c arg8 xr dr z A a b (j + 1) := by
  unfold stMm mm WP
  simp only [wp_bind]
  iintro ⟨Hx, Hd, H8⟩
  iapply (lift_load c); isplitl [Hx]; · iexact Hx
  iintro Hx
  iapply (lift_load c); isplitl [Hd]; · iexact Hd
  iintro Hd
  iapply (lift_load c); isplitl [H8]; · iexact H8
  iintro H8
  iapply (lift_load c); isplitl [H8]; · iexact H8
  iintro H8
  iapply (lift_store c); isplitl [H8]; · iexact H8
  iintro H8
  isplitl [Hx]; · iexact Hx
  isplitl [Hd]; · iexact Hd
  rw [mix_tile (R := 1024) (C := 4608) (T := 512) j (accN z a b A) A (inbAcc hj),
    ← show _ = mix (s := S1024x4608) 1 (512 * (j + 1)) (accN z a b A) A from
      overlay_col (T := 512) (n := 9) rfl (fun j hj => accVal z (mmVal (fun k => a (rXTall.emb k)) (fun k => b ((rMm j hj).emb k))) (fun k => A ((rAcc j hj).emb k))) j hj (inbAcc hj) A]
  iexact H8

end

end Cert.KernelIdeal.Hand

end
-- ==== Proof.Points.lean ====
module

public import proofs.«01_k».proof.Proof.Tiles

/-!
# What a grid point's preparation and matmul do

The tile triples put together: a grid point that only prepares fills the eight windows and buffers
it writes, and a grid point that also multiplies adds a whole chunk to the accumulator.
-/

@[expose] public section

set_option maxRecDepth 16384

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (Pipeline.UD sig nD τ) ℕ

/-- A triple keeps what it does not mention, on the right. -/
theorem wp_keep_r (c : Dev nD) {p : Prog (KE F) PUnit} {A B : sProp 𝕄} (R : sProp 𝕄) (h : A ⊢ WP c p fun _ => B) :
    iprop(A ∗ R) ⊢ WP c p fun _ => iprop(B ∗ R) :=
  (sep_mono_left h).trans (wp_frame_r _ _ _)

/-- A triple keeps what it does not mention, on the left. -/
theorem wp_keep_l (c : Dev nD) {p : Prog (KE F) PUnit} {A B : sProp 𝕄} (R : sProp 𝕄) (h : A ⊢ WP c p fun _ => B) :
    iprop(R ∗ A) ⊢ WP c p fun _ => iprop(R ∗ B) :=
  (sep_mono_right h).trans (wp_frame_l _ _ _)

section
variable (c : Dev nD)
  (arg1 : Memref sig .tc .vmem S512x1024 .bf16) (arg2 : Memref sig .tc .vmem S512x4608 .bf16)
  (arg4 : Memref sig .tc .vmem S512x1024 .fp8e4m3) (harg4 : arg4.IsWhole) (arg5 : Memref sig .tc .vmem S16x1024 .f32)
  (arg6 : Memref sig .tc .vmem S512x4608 .fp8e5m2) (harg6 : arg6.IsWhole) (arg7 : Memref sig .tc .vmem S16x4608 .f32)
  (arg8 : Memref sig .tc .vmem S1024x4608 .f32)
  (xr : Memref sig .tc .vmem S1024x512 .bf16) (dr : Memref sig .tc .vmem S512x4608 .bf16)
  (xw : Memref sig .tc .vmem S1024x512 .bf16) (hxw : xw.IsWhole) (dw : Memref sig .tc .vmem S512x4608 .bf16) (hdw : dw.IsWhole)
  (z : BitVec 1)
  (X : FVec F S512x1024 .bf16) (Y : FVec F S512x4608 .bf16)
  (o4 : FVec F S512x1024 .fp8e4m3) (o5 : FVec F S16x1024 .f32) (o6 : FVec F S512x4608 .fp8e5m2) (o7 : FVec F S16x4608 .f32)
  (A : FVec F S1024x4608 .f32) (a : FVec F S1024x512 .bf16) (b : FVec F S512x4608 .bf16) (ox : FVec F S1024x512 .bf16) (od : FVec F S512x4608 .bf16)

attribute [local irreducible] prepDy prepX mm stDy stX stMm

theorem dy4_ok (j : ℕ) (hj : j < 9) :
    stDy c arg2 arg6 arg7 dw Y o6 o7 od (4 * j) ⊢ WP c (dy4 arg2 arg6 harg6 arg7 dw hdw j hj) fun _ => stDy c arg2 arg6 arg7 dw Y o6 o7 od (4 * (j + 1)) :=
  wp_then c (prepDy_ok c arg2 arg6 harg6 arg7 dw hdw Y o6 o7 od (4 * j) (by omega))
    (wp_then c (prepDy_ok c arg2 arg6 harg6 arg7 dw hdw Y o6 o7 od (4 * j + 1) (by omega))
      (wp_then c (prepDy_ok c arg2 arg6 harg6 arg7 dw hdw Y o6 o7 od (4 * j + 2) (by omega))
        (prepDy_ok c arg2 arg6 harg6 arg7 dw hdw Y o6 o7 od (4 * j + 3) (by omega))))

/-- The preparing part of a grid point after `n` groups. -/
def stPrep (n m : ℕ) : sProp 𝕄 :=
  iprop(stX c arg1 arg4 arg5 xw X o4 o5 ox n ∗ stDy c arg2 arg6 arg7 dw Y o6 o7 od m)

theorem prepGroups_ok (n : ℕ) (hn : n ≤ 8) :
    stPrep c arg1 arg2 arg4 arg5 arg6 arg7 xw dw X Y o4 o5 o6 o7 ox od 0 0
      ⊢ WP c (prepGroups arg1 arg2 arg4 harg4 arg5 arg6 harg6 arg7 xw hxw dw hdw n hn) fun _ =>
        stPrep c arg1 arg2 arg4 arg5 arg6 arg7 xw dw X Y o4 o5 o6 o7 ox od n (4 * n) := by
  induction n with
  | zero => exact le_wp_ret frame _ _ _ (fun _ => stPrep c arg1 arg2 arg4 arg5 arg6 arg7 xw dw X Y o4 o5 o6 o7 ox od 0 0)
  | succ n ih =>
    refine wp_then c (ih (by omega)) (wp_then c (wp_keep_l c _ (dy4_ok c arg2 arg6 harg6 arg7 dw hdw Y o6 o7 od n (by omega))) ?_)
    exact wp_keep_r c _ (prepX_ok c arg1 arg4 harg4 arg5 xw hxw X o4 o5 ox n (by omega))

theorem prepAll_ok' :
    stPrep c arg1 arg2 arg4 arg5 arg6 arg7 xw dw X Y o4 o5 o6 o7 ox od 0 0
      ⊢ WP c (prepAll arg1 arg2 arg4 harg4 arg5 arg6 harg6 arg7 xw hxw dw hdw) fun _ =>
        stPrep c arg1 arg2 arg4 arg5 arg6 arg7 xw dw X Y o4 o5 o6 o7 ox od 8 36 :=
  wp_then c (prepGroups_ok c arg1 arg2 arg4 harg4 arg5 arg6 harg6 arg7 xw hxw dw hdw X Y o4 o5 o6 o7 ox od 8 le_rfl)
    (wp_keep_l c _ (dy4_ok c arg2 arg6 harg6 arg7 dw hdw Y o6 o7 od 8 (by omega)))

theorem stepGroups_ok (n : ℕ) (hn : n ≤ 8) :
    iprop(stMm c arg8 xr dr z A a b 0 ∗ stPrep c arg1 arg2 arg4 arg5 arg6 arg7 xw dw X Y o4 o5 o6 o7 ox od 0 0)
      ⊢ WP c (stepGroups arg1 arg2 arg4 harg4 arg5 arg6 harg6 arg7 arg8 xr dr xw hxw dw hdw z n hn) fun _ =>
        iprop(stMm c arg8 xr dr z A a b n ∗ stPrep c arg1 arg2 arg4 arg5 arg6 arg7 xw dw X Y o4 o5 o6 o7 ox od n (4 * n)) := by
  induction n with
  | zero => exact le_wp_ret frame _ _ _ (fun _ => iprop(stMm c arg8 xr dr z A a b 0 ∗ stPrep c arg1 arg2 arg4 arg5 arg6 arg7 xw dw X Y o4 o5 o6 o7 ox od 0 0))
  | succ n ih =>
    refine wp_then c (ih (by omega)) (wp_then c (wp_keep_r c _ (mm_ok c arg8 xr dr z A a b n (by omega))) ?_)
    exact wp_keep_l c _ (wp_then c (wp_keep_l c _ (dy4_ok c arg2 arg6 harg6 arg7 dw hdw Y o6 o7 od n (by omega)))
      (wp_keep_r c _ (prepX_ok c arg1 arg4 harg4 arg5 xw hxw X o4 o5 ox n (by omega))))

theorem stepAll_ok' :
    iprop(stMm c arg8 xr dr z A a b 0 ∗ stPrep c arg1 arg2 arg4 arg5 arg6 arg7 xw dw X Y o4 o5 o6 o7 ox od 0 0)
      ⊢ WP c (stepAll arg1 arg2 arg4 harg4 arg5 arg6 harg6 arg7 arg8 xr dr xw hxw dw hdw z) fun _ =>
        iprop(stMm c arg8 xr dr z A a b 9 ∗ stPrep c arg1 arg2 arg4 arg5 arg6 arg7 xw dw X Y o4 o5 o6 o7 ox od 8 36) :=
  wp_then c (stepGroups_ok c arg1 arg2 arg4 harg4 arg5 arg6 harg6 arg7 arg8 xr dr xw hxw dw hdw z X Y o4 o5 o6 o7 A a b ox od 8 le_rfl)
    (wp_then c (wp_keep_r c _ (mm_ok c arg8 xr dr z A a b 8 (by omega)))
      (wp_keep_l c _ (wp_keep_l c _ (dy4_ok c arg2 arg6 harg6 arg7 dw hdw Y o6 o7 od 8 (by omega)))))

/-- The buffers a grid point's preparation uses. -/
def prepBufs : sProp 𝕄 :=
  iprop((owns (c : Thread nD τ) arg1 fullShare X ∗ owns (c : Thread nD τ) arg4 fullShare o4 ∗ owns (c : Thread nD τ) arg5 fullShare o5
      ∗ owns (c : Thread nD τ) xw fullShare ox)
    ∗ owns (c : Thread nD τ) arg2 fullShare Y ∗ owns (c : Thread nD τ) arg6 fullShare o6 ∗ owns (c : Thread nD τ) arg7 fullShare o7
      ∗ owns (c : Thread nD τ) dw fullShare od)

/-- The buffers a grid point's matmul uses. -/
def mmBufs : sProp 𝕄 :=
  iprop(owns (c : Thread nD τ) xr fullShare a ∗ owns (c : Thread nD τ) dr fullShare b ∗ owns (c : Thread nD τ) arg8 fullShare A)

theorem stPrep_zero : (stPrep c arg1 arg2 arg4 arg5 arg6 arg7 xw dw X Y o4 o5 o6 o7 ox od 0 0 : sProp 𝕄)
    = prepBufs c arg1 arg2 arg4 arg5 arg6 arg7 xw dw X Y o4 o5 o6 o7 ox od := by
  unfold stPrep stX stDy prepBufs
  rw [mix_zero, mix_zero, mix_zero, mix_zero, mix_zero, mix_zero]

theorem stPrep_all : (stPrep c arg1 arg2 arg4 arg5 arg6 arg7 xw dw X Y o4 o5 o6 o7 ox od 8 36 : sProp 𝕄)
    = prepBufs c arg1 arg2 arg4 arg5 arg6 arg7 xw dw X Y (xC X) (xS X) (dyC Y) (dyS Y) (xH X) (dyH Y) := by
  unfold stPrep stX stDy prepBufs
  rw [mix_all (s := S512x1024) _ (by decide), mix_all (s := S16x1024) _ (by decide), mix_all (s := S1024x512) _ (by decide),
    mix_all (s := S512x4608) _ (by decide), mix_all (s := S16x4608) _ (by decide), mix_all (s := S512x4608) _ (by decide)]

/-- A grid point that only prepares fills what it writes. -/
theorem prepAll_ok :
    prepBufs c arg1 arg2 arg4 arg5 arg6 arg7 xw dw X Y o4 o5 o6 o7 ox od
      ⊢ WP c (prepAll arg1 arg2 arg4 harg4 arg5 arg6 harg6 arg7 xw hxw dw hdw) fun _ =>
        prepBufs c arg1 arg2 arg4 arg5 arg6 arg7 xw dw X Y (xC X) (xS X) (dyC Y) (dyS Y) (xH X) (dyH Y) := by
  have h := prepAll_ok' c arg1 arg2 arg4 harg4 arg5 arg6 harg6 arg7 xw hxw dw hdw X Y o4 o5 o6 o7 ox od
  rwa [stPrep_zero, stPrep_all] at h

/-- A grid point that multiplies and prepares accumulates the chunk and fills what it writes. -/
theorem stepAll_ok :
    iprop(mmBufs c arg8 xr dr A a b ∗ prepBufs c arg1 arg2 arg4 arg5 arg6 arg7 xw dw X Y o4 o5 o6 o7 ox od)
      ⊢ WP c (stepAll arg1 arg2 arg4 harg4 arg5 arg6 harg6 arg7 arg8 xr dr xw hxw dw hdw z) fun _ =>
        iprop(mmBufs c arg8 xr dr (accN z a b A) a b
          ∗ prepBufs c arg1 arg2 arg4 arg5 arg6 arg7 xw dw X Y (xC X) (xS X) (dyC Y) (dyS Y) (xH X) (dyH Y)) := by
  have h := stepAll_ok' c arg1 arg2 arg4 harg4 arg5 arg6 harg6 arg7 arg8 xr dr xw hxw dw hdw z X Y o4 o5 o6 o7 A a b ox od
  rw [stPrep_zero, stPrep_all] at h
  unfold stMm at h
  rw [mix_zero, mix_all (s := S1024x4608) _ (by decide)] at h
  exact h

end

end Cert.KernelIdeal.Hand

end
-- ==== Proof.KernelEq.lean ====
module

public import proofs.«01_k».proof.Proof.Blocks
public import Idealize.ShloMosaic.Lib.Tactic

/-!
# The printed kernel is the composition of tile programs
-/

@[expose] public section

set_option maxRecDepth 16384

noncomputable section

namespace Cert.KernelIdeal.Hand

open Cert.KernelIdeal
open Idealize.ShloMosaic Idealize.ShloMosaic.Tactic Idealize.SL.Sem

variable {F : FTy → Type} [FloatOps F] [Facts]

/-- One grid point of the printed kernel, in named pieces. -/
theorem kernel_eq (i : grid0.Coords) (arg1 : Memref sig .tc .vmem S512x1024 .bf16) (harg1 : arg1.IsWhole) (arg2 : Memref sig .tc .vmem S512x4608 .bf16) (harg2 : arg2.IsWhole) (arg3 : Memref sig .tc .hbm S4096x4608 .f32) (harg3 : arg3.IsWhole) (arg4 : Memref sig .tc .vmem S512x1024 .fp8e4m3) (harg4 : arg4.IsWhole) (arg5 : Memref sig .tc .vmem S16x1024 .f32) (harg5 : arg5.IsWhole) (arg6 : Memref sig .tc .vmem S512x4608 .fp8e5m2) (harg6 : arg6.IsWhole) (arg7 : Memref sig .tc .vmem S16x4608 .f32) (harg7 : arg7.IsWhole) (arg8 : Memref sig .tc .vmem S1024x4608 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S512x4608 .bf16) (harg11 : arg11.IsWhole) (arg12 : Memref sig .tc .vmem S512x4608 .bf16) (harg12 : arg12.IsWhole) (arg13 : DmaSems sig S_) :
    cc0_mx_wgrad (F := F) i arg1 harg1 arg2 harg2 arg3 harg3 arg4 harg4 arg5 harg5 arg6 harg6 arg7 harg7 arg8 harg8 arg9 harg9 arg10 harg10 arg11 harg11 arg12 harg12 arg13
      = body i arg1 harg1 arg2 harg2 arg3 harg3 arg4 harg4 arg5 harg5 arg6 harg6 arg7 harg7 arg8 harg8 arg9 harg9 arg10 harg10 arg11 harg11 arg12 harg12 arg13 := by
  sl_kernel_rfl

end Cert.KernelIdeal.Hand

end
-- ==== Proof.Body.lean ====
module

public import proofs.«01_k».proof.Proof.Points
public import proofs.«01_k».proof.Proof.KernelEq
public import Idealize.ShloMosaic.Lib.Transfers

/-!
# One grid point of the kernel

Which of the kernel's conditionals hold at which grid point, and what a grid point does in each of
the six resulting cases, including the transfer of the finished accumulator to the result.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (Pipeline.UD sig nD τ) ℕ

/-! ## The conditionals over the grid -/

theorem cond1_iff : ∀ t : Fin grid0.N, k0_cond1 (grid0.coords t) = 1#1 ↔ t.val = 0 := by decide +kernel
theorem cond2_iff : ∀ t : Fin grid0.N, k0_cond2 (grid0.coords t) = 1#1 ↔ (t.val = 49 ∨ t.val = 97 ∨ t.val = 145) := by decide +kernel
theorem cond3_iff : ∀ t : Fin grid0.N, k0_cond3 (grid0.coords t) = 1#1 ↔ t.val % 2 = 1 := by decide +kernel
theorem cond4_iff : ∀ t : Fin grid0.N, k0_cond4 (grid0.coords t) = 1#1 ↔ (t.val % 2 = 0 ∧ t.val ≠ 0) := by decide +kernel
theorem cond5_iff : ∀ t : Fin grid0.N, k0_cond5 (grid0.coords t) = 1#1 ↔ (t.val % 48 = 0 ∧ t.val ≠ 0) := by decide +kernel
theorem cond6_iff : ∀ t : Fin grid0.N, k0_cond6 (grid0.coords t) = 1#1 ↔ t.val = 192 := by decide +kernel
theorem first_eq : ∀ t : Fin grid0.N, firstChunk (grid0.coords t) = if (t.val - 1) % 48 = 0 then 1#1 else 0#1 := by decide +kernel
theorem off2_eq : ∀ t : Fin grid0.N, k0_off2 (grid0.coords t) 0 = 1024 * ((t.val - 1) / 48) ∧ k0_off2 (grid0.coords t) 1 = 0 := by decide +kernel

/-! ## The transfer of the accumulator -/

/-- The result the kernel's own transfers write. -/
abbrev dwM : Memref sig .tc .hbm S4096x4608 .f32 := Memref.whole main_v2_0
/-- The accumulator. -/
abbrev accM : Memref sig .tc .vmem S1024x4608 .f32 := Memref.whole cc0_scratch0

/-- The amount of one transfer. -/
def dmaN : ℕ := sig.dmaCredit .tc (Kind.tc.table dwM.view.ref.space) dwM.view.buf S1024x4608 .f32

/-- The transfers' counter algebra. -/
abbrev EC : UEmb Counters 𝕄 := countersEmb (U := Pipeline.UD sig nD τ)

/-- The result whole. -/
abbrev dwPt (c : Dev nD) (D : FVec F S4096x4608 .f32) : sProp 𝕄 := owns (c : Thread nD τ) dwM fullShare D
/-- The accumulator whole. -/
abbrev accPt (c : Dev nD) (A : FVec F S1024x4608 .f32) : sProp 𝕄 := owns (c : Thread nD τ) accM fullShare A

/-- A transfer of the accumulator in flight: it delivers the result at `D` and the accumulator back at `A`. -/
def flying (c : Dev nD) (D : FVec F S4096x4608 .f32) (A : FVec F S1024x4608 .f32) : sProp 𝕄 :=
  Transfers.Flight EC (c : Thread nD τ) (.dma cc0_scratch5.sem) () dmaN iprop(dwPt c D ∗ accPt c A)

/-- The transfers' cell at rest. -/
abbrev cell0 (c : Dev nD) : sProp 𝕄 := semVal ((c : Thread nD τ), SemLoc.dma cc0_scratch5.sem) 0

/-- Writing a rectangle of a whole buffer. -/
theorem whole_write {sp : Space} (b : Ref sig .tc) (r : Rect b.ty.shape) (hr : ∀ a, r.stride a = 1) (f : b.ty.Contents (Elt F)) (w : r.shape.Idx → Elt F b.ty.elt) :
    ((Memref.whole b).slice r hr).view.write (Elt F) f w Finset.univ = r.overlay f w := by
  funext j
  show (View.whole b).read (Elt F) (((View.whole b).slice r).write (Elt F) f w Finset.univ) j = _
  by_cases hj : j ∈ r.set
  · rw [← Rect.map_emb_univ] at hj
    obtain ⟨i, -, rfl⟩ := Finset.mem_map.mp hj
    rw [Rect.overlay_emb]
    exact (View.whole b).read_slice_write_emb r f w (Finset.mem_univ i)
  · rw [Rect.overlay_of_not_mem _ _ _ hj]
    exact (View.whole b).read_slice_write_of_not_mem r f w Finset.univ (by rwa [Rect.map_emb_univ])

/-- Starting the transfer of the accumulator to the rows at `off`. -/
theorem enqueue_ok (c : Dev nD) (off : Fin 2 → ℕ) (inb : ∀ a, off a + S1024x4608.size a ≤ S4096x4608.size a) {hs hd ht}
    (D : FVec F S4096x4608 .f32) (A : FVec F S1024x4608 .f32) :
    iprop(accPt c A ∗ dwPt c D ∗ cell0 c)
      ⊢ WP c (Prog.lift (.enqueueDma accM (.here (dwM.slice (Rect.unit (s := S4096x4608) off S1024x4608.size inb) (fun _ => rfl))) (.dma cc0_scratch5.sem) hs hd ht))
        fun _ => flying c ((Rect.unit (s := S4096x4608) off S1024x4608.size inb).overlay D A) A := by
  unfold flying accPt dwPt
  rw [owns_whole, owns_whole, owns_whole]
  have hset : accM.view.set = Finset.univ := View.set_whole cc0_scratch0
  have hw := whole_write (F := F) (sp := .hbm) main_v2_0 (Rect.unit (s := S4096x4608) off S1024x4608.size inb) (fun _ => rfl) D A
  iintro ⟨Ha, Hd, Hc⟩
  iapply (Transfers.wp_dmaLocal EC Variants.none (c : Thread nD τ) none (src := accM)
    (dst := dwM.slice (Rect.unit (s := S4096x4608) off S1024x4608.size inb) (fun _ => rfl)) (q := fullShare) (fs := A) (Sd := Finset.univ) (fd := D)
    () dmaN rfl (by decide) (Finset.subset_univ _)) $$ [Ha Hd Hc]
  · isplitl [Ha]; · rw [hset]; iexact Ha
    isplitl [Hd]; · iexact Hd
    iexact Hc
  iintro H
  iapply (le_wp_ret frame (wpE (defs₀ (F := F)) Variants.none (c : Thread nD τ) none) Set.univ PUnit.unit _)
  rw [hset]
  rw [show (dwM.slice (Rect.unit (s := S4096x4608) off S1024x4608.size inb) (fun _ => rfl)).view.write (Elt F) D (ReadAs.apply .same (accM.view.read (Elt F) A)) Finset.univ
    = (Rect.unit (s := S4096x4608) off S1024x4608.size inb).overlay D A from hw]
  iexact H

/-- Waiting for a transfer in flight. -/
theorem wait_ok (c : Dev nD) (off : Fin 2 → ℕ) (inb : ∀ a, off a + S1024x4608.size a ≤ S4096x4608.size a) {hs hd}
    (D : FVec F S4096x4608 .f32) (A : FVec F S1024x4608 .f32) :
    iprop(flying c D A ∗ (∃ W, owes (c : Thread nD τ) 0 W))
      ⊢ WP c (Prog.lift (.waitDma2 cc0_scratch5.sem accM (dwM.slice (Rect.unit (s := S4096x4608) off S1024x4608.size inb) (fun _ => rfl)) hs hd))
        fun _ => iprop(accPt c A ∗ dwPt c D ∗ cell0 c ∗ (∃ W, owes (c : Thread nD τ) 0 W)) := by
  unfold flying
  iintro ⟨Hf, ⟨%W, HW⟩⟩
  iapply (Transfers.wp_waitLocal EC Variants.none (c : Thread nD τ) none () (N := dmaN) (W := W)
    (dstw := dwM.slice (Rect.unit (s := S4096x4608) off S1024x4608.size inb) (fun _ => rfl)) rfl) $$ [Hf HW]
  · isplitl [Hf]; · iexact Hf
    iexact HW
  iintro ⟨⟨Hd, Ha⟩, Hc, HW⟩
  iapply (le_wp_ret frame (wpE (defs₀ (F := F)) Variants.none (c : Thread nD τ) none) Set.univ PUnit.unit _)
  isplitl [Ha]; · iexact Ha
  isplitl [Hd]; · iexact Hd
  isplitl [Hc]; · iexact Hc
  iexists _; iexact HW

/-! ## The six kinds of grid point -/

section
variable (c : Dev nD) (t : Fin grid0.N)
  (arg1 : Memref sig .tc .vmem S512x1024 .bf16) (harg1 : arg1.IsWhole) (arg2 : Memref sig .tc .vmem S512x4608 .bf16) (harg2 : arg2.IsWhole)
  (harg3 : dwM.IsWhole)
  (arg4 : Memref sig .tc .vmem S512x1024 .fp8e4m3) (harg4 : arg4.IsWhole) (arg5 : Memref sig .tc .vmem S16x1024 .f32) (harg5 : arg5.IsWhole)
  (arg6 : Memref sig .tc .vmem S512x4608 .fp8e5m2) (harg6 : arg6.IsWhole) (arg7 : Memref sig .tc .vmem S16x4608 .f32) (harg7 : arg7.IsWhole)
  (harg8 : accM.IsWhole)
  (arg9 : Memref sig .tc .vmem S1024x512 .bf16) (harg9 : arg9.IsWhole) (arg10 : Memref sig .tc .vmem S1024x512 .bf16) (harg10 : arg10.IsWhole)
  (arg11 : Memref sig .tc .vmem S512x4608 .bf16) (harg11 : arg11.IsWhole) (arg12 : Memref sig .tc .vmem S512x4608 .bf16) (harg12 : arg12.IsWhole)

/-- The body of grid point `t` at the kernel's own result, accumulator and cell. -/
abbrev bodyP : Prog (KE F) PUnit :=
  body (grid0.coords t) arg1 harg1 arg2 harg2 dwM harg3 arg4 harg4 arg5 harg5 arg6 harg6 arg7 harg7 accM harg8 arg9 harg9 arg10 harg10 arg11 harg11 arg12 harg12 cc0_scratch5

attribute [local irreducible] stepAll prepAll

/-- Two returns in a row. -/
theorem done2 (c : Dev nD) {α β : Type} (a : α) (b : β) (Q : sProp 𝕄) : Q ⊢ WP c (Pure.pure a) fun _ => WP c (Pure.pure b) fun _ => Q :=
  (le_wp_ret frame (wpE (defs₀ (F := F)) Variants.none (c : Thread nD τ) none) Set.univ b fun _ => Q).trans
    (le_wp_ret frame (wpE (defs₀ (F := F)) Variants.none (c : Thread nD τ) none) Set.univ a fun _ => WP c (Pure.pure b) fun _ => Q)

/-- A return. -/
theorem done1 (c : Dev nD) {α : Type} (a : α) (Q : sProp 𝕄) : Q ⊢ WP c (Pure.pure a) fun _ => Q :=
  le_wp_ret frame (wpE (defs₀ (F := F)) Variants.none (c : Thread nD τ) none) Set.univ a fun _ => Q

/-- The first grid point only prepares. -/
theorem body_first (hs : t.val = 0) {P Q : sProp 𝕄}
    (h1 : P ⊢ WP c (prepAll arg1 arg2 arg4 harg4 arg5 arg6 harg6 arg7 arg9 harg9 arg11 harg11) fun _ => Q)
    : P ⊢ WP c (bodyP t arg1 harg1 arg2 harg2 harg3 arg4 harg4 arg5 harg5 arg6 harg6 arg7 harg7 harg8 arg9 harg9 arg10 harg10 arg11 harg11 arg12 harg12) fun _ => Q := by
  have e1 := (cond1_iff t).mpr (by omega)
  have e2 := mt (cond2_iff t).mp (by omega)
  have e3 := mt (cond3_iff t).mp (by omega)
  have e4 := mt (cond4_iff t).mp (by omega)
  have e5 := mt (cond5_iff t).mp (by omega)
  have e6 := mt (cond6_iff t).mp (by omega)
  unfold bodyP body body271 WP
  simp only [dif_pos e1, dif_neg e2, dif_neg e3, dif_neg e4, dif_neg e5, dif_neg e6, wp_bind]
  exact h1.trans (wp_mono _ _ _ fun _ => done2 c _ _ Q)

/-- An odd grid point multiplies from the first buffers and prepares into the second. -/
theorem body_odd (hs : t.val % 2 = 1) (hw : ¬ (t.val = 49 ∨ t.val = 97 ∨ t.val = 145)) {P Q : sProp 𝕄}
    (h1 : P ⊢ WP c (stepAll arg1 arg2 arg4 harg4 arg5 arg6 harg6 arg7 accM arg9 arg11 arg10 harg10 arg12 harg12 (firstChunk (grid0.coords t))) fun _ => Q)
    : P ⊢ WP c (bodyP t arg1 harg1 arg2 harg2 harg3 arg4 harg4 arg5 harg5 arg6 harg6 arg7 harg7 harg8 arg9 harg9 arg10 harg10 arg11 harg11 arg12 harg12) fun _ => Q := by
  have e1 := mt (cond1_iff t).mp (by omega)
  have e2 := mt (cond2_iff t).mp (by omega)
  have e3 := (cond3_iff t).mpr (by omega)
  have e4 := mt (cond4_iff t).mp (by omega)
  have e5 := mt (cond5_iff t).mp (by omega)
  have e6 := mt (cond6_iff t).mp (by omega)
  unfold bodyP body body271 WP
  simp only [dif_neg e1, dif_neg e2, dif_pos e3, dif_neg e4, dif_neg e5, dif_neg e6, wp_bind]
  exact h1.trans (wp_mono _ _ _ fun _ => done2 c _ _ Q)

/-- An odd grid point that first waits for the transfer of the pass before. -/
theorem body_odd_wait (hs : t.val = 49 ∨ t.val = 97 ∨ t.val = 145) {P P1 Q : sProp 𝕄}
    (h1 : P ⊢ WP c ((Prog.lift (.waitDma2 cc0_scratch5.sem accM (dwM.slice (Rect.unit (s := S4096x4608) (k0_off1 (grid0.coords t)) S1024x4608.size (Facts₀.k0_off1_inb (grid0.coords t) ((cond2_iff t).mpr (by omega)))) (fun _ => rfl)) harg8.wordExact (View.wordExact_bits rfl)))) fun _ => P1)
    (h2 : P1 ⊢ WP c (stepAll arg1 arg2 arg4 harg4 arg5 arg6 harg6 arg7 accM arg9 arg11 arg10 harg10 arg12 harg12 (firstChunk (grid0.coords t))) fun _ => Q)
    : P ⊢ WP c (bodyP t arg1 harg1 arg2 harg2 harg3 arg4 harg4 arg5 harg5 arg6 harg6 arg7 harg7 harg8 arg9 harg9 arg10 harg10 arg11 harg11 arg12 harg12) fun _ => Q := by
  have e1 := mt (cond1_iff t).mp (by omega)
  have e2 := (cond2_iff t).mpr (by omega)
  have e3 := (cond3_iff t).mpr (by omega)
  have e4 := mt (cond4_iff t).mp (by omega)
  have e5 := mt (cond5_iff t).mp (by omega)
  have e6 := mt (cond6_iff t).mp (by omega)
  unfold bodyP body body271 WP
  simp only [dif_neg e1, dif_pos e2, dif_pos e3, dif_neg e4, dif_neg e5, dif_neg e6, wp_bind]
  exact h1.trans (wp_mono _ _ _ fun _ => h2.trans (wp_mono _ _ _ fun _ => done2 c _ _ Q))

/-- An even grid point multiplies from the second buffers and prepares into the first. -/
theorem body_even (hs : t.val % 2 = 0) (h0 : t.val ≠ 0) (hw : t.val % 48 ≠ 0) {P Q : sProp 𝕄}
    (h1 : P ⊢ WP c (stepAll arg1 arg2 arg4 harg4 arg5 arg6 harg6 arg7 accM arg10 arg12 arg9 harg9 arg11 harg11 (firstChunk (grid0.coords t))) fun _ => Q)
    : P ⊢ WP c (bodyP t arg1 harg1 arg2 harg2 harg3 arg4 harg4 arg5 harg5 arg6 harg6 arg7 harg7 harg8 arg9 harg9 arg10 harg10 arg11 harg11 arg12 harg12) fun _ => Q := by
  have e1 := mt (cond1_iff t).mp (by omega)
  have e2 := mt (cond2_iff t).mp (by omega)
  have e3 := mt (cond3_iff t).mp (by omega)
  have e4 := (cond4_iff t).mpr (by omega)
  have e5 := mt (cond5_iff t).mp (by omega)
  have e6 := mt (cond6_iff t).mp (by omega)
  unfold bodyP body body271 WP
  simp only [dif_neg e1, dif_neg e2, dif_neg e3, dif_pos e4, dif_neg e5, dif_neg e6, wp_bind]
  exact h1.trans (wp_mono _ _ _ fun _ => done2 c _ _ Q)

/-- The last grid point of a pass but the last also starts the transfer of the accumulator. -/
theorem body_even_enq (hs : t.val % 48 = 0) (h0 : t.val ≠ 0) (hw : t.val ≠ 192) {P P1 Q : sProp 𝕄}
    (h1 : P ⊢ WP c (stepAll arg1 arg2 arg4 harg4 arg5 arg6 harg6 arg7 accM arg10 arg12 arg9 harg9 arg11 harg11 (firstChunk (grid0.coords t))) fun _ => P1)
    (h2 : P1 ⊢ WP c ((Prog.lift (.enqueueDma accM (.here (dwM.slice (Rect.unit (s := S4096x4608) (k0_off2 (grid0.coords t)) S1024x4608.size (Facts₀.k0_off2_inb (grid0.coords t) ((cond5_iff t).mpr (by omega)))) (fun _ => rfl))) (.dma cc0_scratch5.sem) harg8.wordExact (View.wordExact_bits rfl) ⟨Or.inl rfl, trivial⟩))) fun _ => Q)
    : P ⊢ WP c (bodyP t arg1 harg1 arg2 harg2 harg3 arg4 harg4 arg5 harg5 arg6 harg6 arg7 harg7 harg8 arg9 harg9 arg10 harg10 arg11 harg11 arg12 harg12) fun _ => Q := by
  have e1 := mt (cond1_iff t).mp (by omega)
  have e2 := mt (cond2_iff t).mp (by omega)
  have e3 := mt (cond3_iff t).mp (by omega)
  have e4 := (cond4_iff t).mpr (by omega)
  have e5 := (cond5_iff t).mpr (by omega)
  have e6 := mt (cond6_iff t).mp (by omega)
  unfold bodyP body body271 WP
  simp only [dif_neg e1, dif_neg e2, dif_neg e3, dif_pos e4, dif_pos e5, dif_neg e6, wp_bind]
  exact h1.trans (wp_mono _ _ _ fun _ => h2.trans (wp_mono _ _ _ fun _ => done2 c _ _ Q))

/-- The last grid point also waits for the transfer it starts. -/
theorem body_last (hs : t.val = 192) {P P1 P2 Q : sProp 𝕄}
    (h1 : P ⊢ WP c (stepAll arg1 arg2 arg4 harg4 arg5 arg6 harg6 arg7 accM arg10 arg12 arg9 harg9 arg11 harg11 (firstChunk (grid0.coords t))) fun _ => P1)
    (h2 : P1 ⊢ WP c ((Prog.lift (.enqueueDma accM (.here (dwM.slice (Rect.unit (s := S4096x4608) (k0_off2 (grid0.coords t)) S1024x4608.size (Facts₀.k0_off2_inb (grid0.coords t) ((cond5_iff t).mpr (by omega)))) (fun _ => rfl))) (.dma cc0_scratch5.sem) harg8.wordExact (View.wordExact_bits rfl) ⟨Or.inl rfl, trivial⟩))) fun _ => P2)
    (h3 : P2 ⊢ WP c ((Prog.lift (.waitDma2 cc0_scratch5.sem accM (dwM.slice (Rect.unit (s := S4096x4608) (k0_off3 (grid0.coords t)) S1024x4608.size (Facts₀.k0_off3_inb (grid0.coords t) ((cond6_iff t).mpr (by omega)))) (fun _ => rfl)) harg8.wordExact (View.wordExact_bits rfl)))) fun _ => Q)
    : P ⊢ WP c (bodyP t arg1 harg1 arg2 harg2 harg3 arg4 harg4 arg5 harg5 arg6 harg6 arg7 harg7 harg8 arg9 harg9 arg10 harg10 arg11 harg11 arg12 harg12) fun _ => Q := by
  have e1 := mt (cond1_iff t).mp (by omega)
  have e2 := mt (cond2_iff t).mp (by omega)
  have e3 := mt (cond3_iff t).mp (by omega)
  have e4 := (cond4_iff t).mpr (by omega)
  have e5 := (cond5_iff t).mpr (by omega)
  have e6 := (cond6_iff t).mpr (by omega)
  unfold bodyP body body271 WP
  simp only [dif_neg e1, dif_neg e2, dif_neg e3, dif_pos e4, dif_pos e5, dif_pos e6, wp_bind]
  exact h1.trans (wp_mono _ _ _ fun _ => h2.trans (wp_mono _ _ _ fun _ => (done1 c _ _).trans (wp_mono _ _ _ fun _ =>
    h3.trans (wp_mono _ _ _ fun _ => done1 c _ Q))))

end

end Cert.KernelIdeal.Hand

end
-- ==== Proof.Run.lean ====
module

public import proofs.«01_k».proof.Proof.Body
public import Idealize.ShloMosaic.Lib.Pipeline.Frame

/-!
# The whole run of the kernel

What every buffer holds between grid points, the proof that each grid point keeps to it, and what
the run leaves: the arguments unchanged, every semaphore at zero, and the five results.
-/

@[expose] public section

set_option maxRecDepth 16384

noncomputable section

namespace Cert.KernelIdeal.Hand

open Cert.KernelIdeal
open Cert.KernelIdeal.Gen (V iblk st0_0 st0_1 st0_2 st0_3 st0_4 st0_5 bodyAt0 bigSep_W0 launch0 hostOps0 hostOps0_sub hostOps0_fresh main_chain scopedRest0_eq)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Facts]

local notation "𝕄" => MT nD τ sig Unit (Elt F) ℕ (Pipeline.UD sig nD τ) ℕ

variable (m : (ℓ : Loc nD τ sig) → Buf (Elt F) ℓ) (ρ : Dev nD → PrngReg)

/-! ## The contents of the buffers -/

/-- Grid point `n`, the last one beyond the grid. -/
def pt (n : ℕ) : Fin cfg0.N := ⟨min n 192, by rw [show cfg0.N = 193 from Gen.N_0]; omega⟩

theorem t_lt (t : Fin cfg0.N) : t.val < 193 := lt_of_lt_of_eq t.isLt Gen.N_0

theorem pt_val (t : Fin cfg0.N) : pt t.val = t := Fin.ext (Nat.min_eq_left (by have := t_lt t; omega))

/-- The chunk of x staged at grid point `t`. -/
def xBlk (c : Dev nD) (t : Fin cfg0.N) : FVec F S512x1024 .bf16 := iblk m c 0 t
/-- The chunk of dy staged at grid point `t`. -/
def yBlk (c : Dev nD) (t : Fin cfg0.N) : FVec F S512x4608 .bf16 := iblk m c 1 t

/-- The dequantised chunk of x that grid point `n` prepares, transposed. -/
def xHat (c : Dev nD) (n : ℕ) : FVec F S1024x512 .bf16 := xH (xBlk m c (pt n))
/-- The dequantised chunk of dy that grid point `n` prepares. -/
def yHat (c : Dev nD) (n : ℕ) : FVec F S512x4608 .bf16 := dyH (yBlk m c (pt n))

/-- The accumulator after grid point `n`. -/
def accS (c : Dev nD) : ℕ → FVec F S1024x4608 .f32
  | 0 => fun _ => Scalar.ofBits .f32 0x00000000#32
  | n + 1 => accN (firstChunk (grid0.coords (pt (n + 1)))) (xHat m c n) (yHat m c n) (accS c n)

/-- What the finished passes leave: 1024 rows each. -/
def dwFull (c : Dev nD) : FVec F S4096x4608 .f32 :=
  rowTiles (T := 1024) (n := 4) rfl fun p _ => accS m c (48 * (p + 1))

/-- The result after `p` passes. -/
def dwAt (c : Dev nD) (p : ℕ) : FVec F S4096x4608 .f32 := mix (s := S4096x4608) 0 (1024 * p) (dwFull m c) (V m c main_v2_0)

/-- At a pass's first chunk the accumulator's old contents do not matter. -/
theorem accN_first (a : FVec F S1024x512 .bf16) (b : FVec F S512x4608 .bf16) (A A' : FVec F S1024x4608 .f32) :
    accN 1#1 a b A = accN 1#1 a b A' := by
  unfold accN accVal
  rfl

theorem acc_step (c : Dev nD) (t : Fin cfg0.N) (h : t.val ≠ 0) (A : FVec F S1024x4608 .f32) (hA : 2 ≤ t.val → A = accS m c (t.val - 1)) :
    accN (firstChunk (grid0.coords t)) (xHat m c (t.val - 1)) (yHat m c (t.val - 1)) A = accS m c t.val := by
  obtain ⟨n, hn⟩ : ∃ n, t.val = n + 1 := ⟨t.val - 1, by omega⟩
  have e : accS m c t.val = accN (firstChunk (grid0.coords t)) (xHat m c (t.val - 1)) (yHat m c (t.val - 1)) (accS m c (t.val - 1)) := by
    conv_lhs => rw [hn]
    conv_rhs => rw [show t.val - 1 = n by omega, ← pt_val t, hn]
    rfl
  rw [e]
  by_cases h2 : 2 ≤ t.val
  · rw [hA h2]
  · have h1 : firstChunk (grid0.coords t) = 1#1 := by rw [first_eq t, if_pos (by omega)]
    rw [h1]; exact accN_first _ _ _ _

theorem dw_step (c : Dev nD) (t : Fin cfg0.N) (h : t.val % 48 = 0) (h0 : t.val ≠ 0)
    (inb : ∀ a, k0_off2 (grid0.coords t) a + S1024x4608.size a ≤ S4096x4608.size a) :
    (Rect.unit (s := S4096x4608) (k0_off2 (grid0.coords t)) S1024x4608.size inb).overlay (dwAt m c ((t.val - 1) / 48)) (accS m c t.val)
      = dwAt m c (t.val / 48) := by
  obtain ⟨e0, e1⟩ := off2_eq t
  have hlt := t_lt t
  obtain ⟨p, hp⟩ : ∃ p, t.val = 48 * (p + 1) := ⟨t.val / 48 - 1, by omega⟩
  have hp1 : (t.val - 1) / 48 = p := by omega
  have hp2 : t.val / 48 = p + 1 := by omega
  rw [hp1] at e0
  rw [hp1, hp2]
  refine overlay_mix (s := S4096x4608) 0 _ _ _ _ (by omega) (fun k => ?_) (fun i => ?_)
  · have h4 : p < 4 := by omega
    rw [hp]
    refine (rowTiles_at (T := 1024) (n := 4) rfl (fun p _ => accS m c (48 * (p + 1))) _ p h4 k ?_ ?_).symm
    · exact (emb_unit_val _ _ inb k 0).trans (by rw [e0])
    · exact (emb_unit_val _ _ inb k 1).trans (by rw [e1, Nat.zero_add])
  · rw [Rect.mem_set_unit]
    constructor
    · intro hh
      have := hh 0
      rw [e0] at this
      exact ⟨this.1, by have := this.2; change _ < 1024 * p + 1024 at this; omega⟩
    · intro hh a
      match a with
      | ⟨0, _⟩ => exact ⟨by show k0_off2 (grid0.coords t) 0 ≤ _; rw [e0]; exact hh.1, by show (i 0).val < k0_off2 (grid0.coords t) 0 + 1024; rw [e0]; have := hh.2; omega⟩
      | ⟨1, _⟩ => exact ⟨by show k0_off2 (grid0.coords t) 1 ≤ _; rw [e1]; exact Nat.zero_le _, by show _ < k0_off2 (grid0.coords t) 1 + 4608; rw [e1, Nat.zero_add]; exact (i 1).isLt⟩

/-! ## Between grid points -/

abbrev xaM : Memref sig .tc .vmem S1024x512 .bf16 := Memref.whole cc0_scratch1
abbrev xbM : Memref sig .tc .vmem S1024x512 .bf16 := Memref.whole cc0_scratch2
abbrev yaM : Memref sig .tc .vmem S512x4608 .bf16 := Memref.whole cc0_scratch3
abbrev ybM : Memref sig .tc .vmem S512x4608 .bf16 := Memref.whole cc0_scratch4

/-- The double buffers: the last point's chunk is in the first pair after an even point, in the second after an odd. -/
def bufs (c : Dev nD) (n : ℕ) : sProp 𝕄 :=
  iprop(∃ (a b : FVec F S1024x512 .bf16) (ya yb : FVec F S512x4608 .bf16),
    ⌜(n % 2 = 1 → a = xHat m c (n - 1) ∧ ya = yHat m c (n - 1)) ∧ (n % 2 = 0 → n ≠ 0 → b = xHat m c (n - 1) ∧ yb = yHat m c (n - 1))⌝
    ∗ owns (c : Thread nD τ) xaM fullShare a ∗ owns (c : Thread nD τ) xbM fullShare b
    ∗ owns (c : Thread nD τ) yaM fullShare ya ∗ owns (c : Thread nD τ) ybM fullShare yb)

/-- The accumulator, the result and the transfers' cell at rest. -/
def rest (c : Dev nD) (n : ℕ) : sProp 𝕄 :=
  iprop(∃ A : FVec F S1024x4608 .f32, ⌜2 ≤ n → A = accS m c (n - 1)⌝ ∗ accPt c A ∗ dwPt c (dwAt m c ((n - 1) / 48)) ∗ cell0 c)

/-- What the kernel holds before grid point `n`. -/
def Phi (c : Dev nD) (n : ℕ) : sProp 𝕄 :=
  iprop(bufs m c n ∗ (∃ r, prngReg c r)
    ∗ (if n = 49 ∨ n = 97 ∨ n = 145 then flying c (dwAt m c ((n - 1) / 48)) (accS m c (n - 1)) else rest m c n))

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => xC (xBlk m c t)
    | ⟨3, _⟩ => xS (xBlk m c t)
    | ⟨4, _⟩ => dyC (yBlk m c t)
    | ⟨5, _⟩ => dyS (yBlk m c t)
  Φ n := Phi m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]; rfl
theorem after0_1 (c : Dev nD) (t : Fin cfg0.N) : (dats m 0 c).after 1 t = iblk m c 1 t := by dsimp only [dats]; rfl
theorem after0_2 (c : Dev nD) (t : Fin cfg0.N) : (dats m 0 c).after 2 t = xC (xBlk m c t) := by dsimp only [dats]; rfl
theorem after0_3 (c : Dev nD) (t : Fin cfg0.N) : (dats m 0 c).after 3 t = xS (xBlk m c t) := by dsimp only [dats]; rfl
theorem after0_4 (c : Dev nD) (t : Fin cfg0.N) : (dats m 0 c).after 4 t = dyC (yBlk m c t) := by dsimp only [dats]; rfl
theorem after0_5 (c : Dev nD) (t : Fin cfg0.N) : (dats m 0 c).after 5 t = dyS (yBlk m c t) := by dsimp only [dats]; rfl

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- The windows before a grid point: the two chunks, and the four output windows at anything. -/
def winsPre (c : Dev nD) (t : Fin cfg0.N) : sProp 𝕄 :=
  iprop((∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPre (c : Dev nD) (t : Fin cfg0.N) : sProp 𝕄 :=
  iprop((dats m 0 c).Φ t.castSucc ∗ (dats m 0 c).owesAt () t.castSucc ∗ winsPre m c t)

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-! ## One grid point keeps to it -/

/-- Using a triple: what it needs, and what follows from what it gives. -/
theorem wp_use (c : Dev nD) {p : Prog (KE F) PUnit} {P P' Q : sProp 𝕄} (h : P ⊢ WP c p fun _ => P') :
    iprop(P ∗ (P' -∗ Q)) ⊢ WP c p fun _ => Q :=
  (wp_keep_r c _ h).trans (wp_mono _ _ _ fun _ => wand_elim_right)

section
variable (c : Dev nD) (t : Fin cfg0.N)

/-- The window buffers of grid point `t` with the outputs at `o4`, `o5`, `o6`, `o7`. -/
def wins (o4 : FVec F S512x1024 .fp8e4m3) (o5 : FVec F S16x1024 .f32) (o6 : FVec F S512x4608 .fp8e5m2) (o7 : FVec F S16x4608 .f32) : sProp 𝕄 :=
  iprop(owns (c : Thread nD τ) (st0_0 t) fullShare (xBlk m c t) ∗ owns (c : Thread nD τ) (st0_1 t) fullShare (yBlk m c t)
    ∗ owns (c : Thread nD τ) (st0_2 t) fullShare o4 ∗ owns (c : Thread nD τ) (st0_3 t) fullShare o5
    ∗ owns (c : Thread nD τ) (st0_4 t) fullShare o6 ∗ owns (c : Thread nD τ) (st0_5 t) fullShare o7)

/-- The window buffers after grid point `t`. -/
abbrev winsDone : sProp 𝕄 := wins m c t (xC (xBlk m c t)) (xS (xBlk m c t)) (dyC (yBlk m c t)) (dyS (yBlk m c t))

/-- A pair of buffers owned. -/
abbrev pair (xm : Memref sig .tc .vmem S1024x512 .bf16) (ym : Memref sig .tc .vmem S512x4608 .bf16)
    (a : FVec F S1024x512 .bf16) (y : FVec F S512x4608 .bf16) : sProp 𝕄 :=
  iprop(owns (c : Thread nD τ) xm fullShare a ∗ owns (c : Thread nD τ) ym fullShare y)

/-- The buffers a grid point prepares into. -/
abbrev prepT (xw : Memref sig .tc .vmem S1024x512 .bf16) (dw : Memref sig .tc .vmem S512x4608 .bf16)
    (o4 : FVec F S512x1024 .fp8e4m3) (o5 : FVec F S16x1024 .f32) (o6 : FVec F S512x4608 .fp8e5m2) (o7 : FVec F S16x4608 .f32)
    (ox : FVec F S1024x512 .bf16) (od : FVec F S512x4608 .bf16) : sProp 𝕄 :=
  prepBufs c (st0_0 t) (st0_1 t) (st0_2 t) (st0_3 t) (st0_4 t) (st0_5 t) xw dw (xBlk m c t) (yBlk m c t) o4 o5 o6 o7 ox od

theorem prepT_in (xw : Memref sig .tc .vmem S1024x512 .bf16) (dw : Memref sig .tc .vmem S512x4608 .bf16) (o4 o5 o6 o7 ox od) :
    iprop(wins m c t o4 o5 o6 o7 ∗ pair c xw dw ox od) ⊢ prepT m c t xw dw o4 o5 o6 o7 ox od := by
  unfold wins prepT prepBufs pair
  iintro ⟨⟨H0, H1, H2, H3, H4, H5⟩, Hx, Hd⟩
  isplitl [H0 H2 H3 Hx]
  · isplitl [H0]; · iexact H0
    isplitl [H2]; · iexact H2
    isplitl [H3]; · iexact H3
    iexact Hx
  isplitl [H1]; · iexact H1
  isplitl [H4]; · iexact H4
  isplitl [H5]; · iexact H5
  iexact Hd

theorem prepT_out (xw : Memref sig .tc .vmem S1024x512 .bf16) (dw : Memref sig .tc .vmem S512x4608 .bf16) (o4 o5 o6 o7 ox od) :
    prepT m c t xw dw o4 o5 o6 o7 ox od ⊢ iprop(wins m c t o4 o5 o6 o7 ∗ pair c xw dw ox od) := by
  unfold wins prepT prepBufs pair
  iintro ⟨⟨H0, H2, H3, Hx⟩, H1, H4, H5, Hd⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [Hx]; · iexact Hx
  iexact Hd

/-- The preparing grid point, on its windows and the pair it writes. -/
theorem first_ok (xw : Memref sig .tc .vmem S1024x512 .bf16) (hxw : xw.IsWhole) (dw : Memref sig .tc .vmem S512x4608 .bf16) (hdw : dw.IsWhole)
    (h0 h1) (o4 o5 o6 o7 ox od) :
    iprop(wins m c t o4 o5 o6 o7 ∗ pair c xw dw ox od)
      ⊢ WP c (prepAll (st0_0 t) (st0_1 t) (st0_2 t) h0 (st0_3 t) (st0_4 t) h1 (st0_5 t) xw hxw dw hdw) fun _ =>
        iprop(winsDone m c t ∗ pair c xw dw (xHat m c t.val) (yHat m c t.val)) := by
  refine (prepT_in m c t xw dw o4 o5 o6 o7 ox od).trans ((prepAll_ok c (st0_0 t) (st0_1 t) (st0_2 t) h0 (st0_3 t) (st0_4 t) h1 (st0_5 t) xw hxw dw hdw
    (xBlk m c t) (yBlk m c t) o4 o5 o6 o7 ox od).trans (wp_mono _ _ _ fun _ => ?_))
  refine (prepT_out m c t xw dw _ _ _ _ _ _).trans ?_
  unfold xHat yHat; rw [pt_val]

/-- The multiplying grid point, on its windows, the pair it reads, the accumulator and the pair it writes. -/
theorem step_ok (ht : t.val ≠ 0) (xr : Memref sig .tc .vmem S1024x512 .bf16) (dr : Memref sig .tc .vmem S512x4608 .bf16)
    (xw : Memref sig .tc .vmem S1024x512 .bf16) (hxw : xw.IsWhole) (dw : Memref sig .tc .vmem S512x4608 .bf16) (hdw : dw.IsWhole)
    (h0 h1) (A : FVec F S1024x4608 .f32) (hA : 2 ≤ t.val → A = accS m c (t.val - 1)) (o4 o5 o6 o7 ox od) :
    iprop((pair c xr dr (xHat m c (t.val - 1)) (yHat m c (t.val - 1)) ∗ accPt c A) ∗ wins m c t o4 o5 o6 o7 ∗ pair c xw dw ox od)
      ⊢ WP c (stepAll (st0_0 t) (st0_1 t) (st0_2 t) h0 (st0_3 t) (st0_4 t) h1 (st0_5 t) accM xr dr xw hxw dw hdw (firstChunk (grid0.coords t))) fun _ =>
        iprop((pair c xr dr (xHat m c (t.val - 1)) (yHat m c (t.val - 1)) ∗ accPt c (accS m c t.val))
          ∗ winsDone m c t ∗ pair c xw dw (xHat m c t.val) (yHat m c t.val)) := by
  have h := stepAll_ok c (st0_0 t) (st0_1 t) (st0_2 t) h0 (st0_3 t) (st0_4 t) h1 (st0_5 t) accM xr dr xw hxw dw hdw (firstChunk (grid0.coords t))
    (xBlk m c t) (yBlk m c t) o4 o5 o6 o7 A (xHat m c (t.val - 1)) (yHat m c (t.val - 1)) ox od
  rw [acc_step m c t ht A hA] at h
  have hin : iprop((pair c xr dr (xHat m c (t.val - 1)) (yHat m c (t.val - 1)) ∗ accPt c A) ∗ wins m c t o4 o5 o6 o7 ∗ pair c xw dw ox od)
      ⊢ iprop(mmBufs c accM xr dr A (xHat m c (t.val - 1)) (yHat m c (t.val - 1)) ∗ prepT m c t xw dw o4 o5 o6 o7 ox od) := by
    refine BIClass.sep_mono ?_ (prepT_in m c t xw dw o4 o5 o6 o7 ox od)
    unfold pair mmBufs
    iintro ⟨⟨Hx, Hd⟩, Ha⟩
    isplitl [Hx]; · iexact Hx
    isplitl [Hd]; · iexact Hd
    iexact Ha
  refine hin.trans (h.trans (wp_mono _ _ _ fun _ => ?_))
  refine BIClass.sep_mono ?_ ((prepT_out m c t xw dw _ _ _ _ _ _).trans ?_)
  · unfold pair mmBufs
    iintro ⟨Hx, Hd, Ha⟩
    isplitl [Hx Hd]
    · isplitl [Hx]; · iexact Hx
      iexact Hd
    iexact Ha
  · unfold xHat yHat; rw [pt_val]

end

section
variable (c : Dev nD) (t : Fin cfg0.N)

/-- A grid point, from what is held before it to what is held after it. -/
def Keeps : Prop := ∀ (o4 : FVec F S512x1024 .fp8e4m3) (o5 : FVec F S16x1024 .f32) (o6 : FVec F S512x4608 .fp8e5m2) (o7 : FVec F S16x4608 .f32),
  iprop(Phi m c t.val ∗ (∃ W, owes (c : Thread nD τ) 0 W) ∗ wins m c t o4 o5 o6 o7)
    ⊢ WP c (bodyAt0 t) fun _ => iprop(Phi m c (t.val + 1) ∗ (∃ W, owes (c : Thread nD τ) 0 W) ∗ winsDone m c t)

theorem Phi_rest {n : ℕ} (h : ¬ (n = 49 ∨ n = 97 ∨ n = 145)) :
    Phi m c n = iprop(bufs m c n ∗ (∃ r, prngReg c r) ∗ rest m c n) := by
  unfold Phi; rw [if_neg h]
theorem Phi_fly {n : ℕ} (h : n = 49 ∨ n = 97 ∨ n = 145) :
    Phi m c n = iprop(bufs m c n ∗ (∃ r, prngReg c r) ∗ flying c (dwAt m c ((n - 1) / 48)) (accS m c (n - 1))) := by
  unfold Phi; rw [if_pos h]

/-- The buffers after an even grid point. -/
theorem bufs_even (ht : t.val % 2 = 0) (b : FVec F S1024x512 .bf16) (yb : FVec F S512x4608 .bf16) :
    iprop(pair c xaM yaM (xHat m c t.val) (yHat m c t.val) ∗ pair c xbM ybM b yb) ⊢ bufs m c (t.val + 1) := by
  unfold bufs pair
  iintro ⟨⟨Ha, Hya⟩, Hb, Hyb⟩
  iexists _, _, _, _
  isplitr
  swap
  · isplitl [Ha]; · iexact Ha
    isplitl [Hb]; · iexact Hb
    isplitl [Hya]; · iexact Hya
    iexact Hyb
  ipureintro
  exact ⟨fun _ => ⟨by rw [Nat.add_sub_cancel], by rw [Nat.add_sub_cancel]⟩, fun h => by omega⟩

/-- The buffers after an odd grid point. -/
theorem bufs_odd (ht : t.val % 2 = 1) (a : FVec F S1024x512 .bf16) (ya : FVec F S512x4608 .bf16) :
    iprop(pair c xaM yaM a ya ∗ pair c xbM ybM (xHat m c t.val) (yHat m c t.val)) ⊢ bufs m c (t.val + 1) := by
  unfold bufs pair
  iintro ⟨⟨Ha, Hya⟩, Hb, Hyb⟩
  iexists _, _, _, _
  isplitr
  swap
  · isplitl [Ha]; · iexact Ha
    isplitl [Hb]; · iexact Hb
    isplitl [Hya]; · iexact Hya
    iexact Hyb
  ipureintro
  exact ⟨fun h => by omega, fun _ _ => ⟨by rw [Nat.add_sub_cancel], by rw [Nat.add_sub_cancel]⟩⟩

/-- The buffers before an odd grid point. -/
theorem bufs_at_odd {n : ℕ} (ht : n % 2 = 1) :
    bufs m c n ⊢ iprop(∃ b yb, pair c xaM yaM (xHat m c (n - 1)) (yHat m c (n - 1)) ∗ pair c xbM ybM b yb) := by
  unfold bufs pair
  iintro ⟨%a, %b, %ya, %yb, %h, Ha, Hb, Hya, Hyb⟩
  obtain ⟨rfl, rfl⟩ := h.1 ht
  iexists b, yb
  isplitl [Ha Hya]
  · isplitl [Ha]; · iexact Ha
    iexact Hya
  isplitl [Hb]; · iexact Hb
  iexact Hyb

/-- The buffers before an even grid point after the first. -/
theorem bufs_at_even {n : ℕ} (ht : n % 2 = 0) (h0 : n ≠ 0) :
    bufs m c n ⊢ iprop(∃ a ya, pair c xaM yaM a ya ∗ pair c xbM ybM (xHat m c (n - 1)) (yHat m c (n - 1))) := by
  unfold bufs pair
  iintro ⟨%a, %b, %ya, %yb, %h, Ha, Hb, Hya, Hyb⟩
  obtain ⟨rfl, rfl⟩ := h.2 ht h0
  iexists a, ya
  isplitl [Ha Hya]
  · isplitl [Ha]; · iexact Ha
    iexact Hya
  isplitl [Hb]; · iexact Hb
  iexact Hyb

/-- The buffers before any grid point. -/
theorem bufs_any {n : ℕ} : bufs m c n ⊢ iprop(∃ a ya b yb, pair c xaM yaM a ya ∗ pair c xbM ybM b yb) := by
  unfold bufs pair
  iintro ⟨%a, %b, %ya, %yb, -, Ha, Hb, Hya, Hyb⟩
  iexists a, ya, b, yb
  isplitl [Ha Hya]
  · isplitl [Ha]; · iexact Ha
    iexact Hya
  isplitl [Hb]; · iexact Hb
  iexact Hyb

/-- The accumulator, the result and the cell after a grid point at which no transfer starts. -/
theorem rest_next (h : t.val % 48 ≠ 0 ∨ t.val = 0) (hn : t.val ≠ 0) :
    iprop(accPt c (accS m c t.val) ∗ dwPt c (dwAt m c ((t.val - 1) / 48)) ∗ cell0 c) ⊢ rest m c (t.val + 1) := by
  unfold rest
  rw [Nat.add_sub_cancel, show t.val / 48 = (t.val - 1) / 48 by omega]
  iintro H
  iexists _
  isplitr
  swap
  · iexact H
  ipureintro
  exact fun _ => rfl

/-- The accumulator, the result and the cell at rest. -/
theorem rest_any {n : ℕ} : rest m c n ⊢ iprop(∃ A : FVec F S1024x4608 .f32, ⌜2 ≤ n → A = accS m c (n - 1)⌝ ∗ accPt c A ∗ dwPt c (dwAt m c ((n - 1) / 48)) ∗ cell0 c) := .rfl

/-- The first grid point. -/
theorem keeps_first (ht : t.val = 0) : Keeps m c t := by
  intro o4 o5 o6 o7
  rw [Phi_rest m c (by omega), Phi_rest m c (by omega), bodyAt0, kernel_eq]
  have hr : rest m c t.val ⊢ rest m c (t.val + 1) := by
    unfold rest
    iintro ⟨%A, -, H⟩
    iexists A
    isplitr; · ipureintro; exact fun h => by omega
    rw [show (t.val + 1 - 1) / 48 = (t.val - 1) / 48 by omega]
    iexact H
  iintro ⟨⟨Hb, Hg, Hr⟩, Ho, Hw⟩
  ihave Hb2 := (bufs_any m c) $$ Hb
  icases Hb2 with ⟨%a, %ya, %b, %yb, Ha, Hb⟩
  iapply (wp_use c (body_first c t _ _ _ _ _ _ _ _ _ _ _ _ _ _ _ _ _ _ _ _ _ _ ht
    (first_ok m c t xaM (Memref.isWhole_whole _) yaM (Memref.isWhole_whole _) _ _ o4 o5 o6 o7 a ya)))
  isplitl [Hw Ha]
  · isplitl [Hw]; · iexact Hw
    iexact Ha
  iintro ⟨Hw, Hp⟩
  isplitr [Ho Hw]
  · isplitl [Hp Hb]
    · iapply (bufs_even m c t (by omega) b yb)
      isplitl [Hp]; · iexact Hp
      iexact Hb
    isplitl [Hg]; · iexact Hg
    iapply hr
    iexact Hr
  isplitl [Ho]; · iexact Ho
  iexact Hw

/-- An odd grid point with no transfer in flight. -/
theorem keeps_odd (ht : t.val % 2 = 1) (hw : ¬ (t.val = 49 ∨ t.val = 97 ∨ t.val = 145)) : Keeps m c t := by
  intro o4 o5 o6 o7
  rw [Phi_rest m c hw, Phi_rest m c (by omega), bodyAt0, kernel_eq]
  iintro ⟨⟨Hb, Hg, Hr⟩, Ho, Hw⟩
  ihave Hr2 := (rest_any m c) $$ Hr
  icases Hr2 with ⟨%A, %hA, Hacc, Hdw, Hc⟩
  ihave Hb2 := (bufs_at_odd m c ht) $$ Hb
  icases Hb2 with ⟨%b, %yb, Ha, Hb⟩
  iapply (wp_use c (body_odd c t _ _ _ _ _ _ _ _ _ _ _ _ _ _ _ _ _ _ _ _ _ _ ht hw
    (step_ok m c t (by omega) xaM yaM xbM (Memref.isWhole_whole _) ybM (Memref.isWhole_whole _) _ _ A hA o4 o5 o6 o7 b yb)))
  isplitl [Hw Ha Hb Hacc]
  · isplitl [Ha Hacc]
    · isplitl [Ha]; · iexact Ha
      iexact Hacc
    isplitl [Hw]; · iexact Hw
    iexact Hb
  iintro ⟨⟨Ha, Hacc⟩, Hw, Hb⟩
  isplitr [Ho Hw]
  · isplitl [Ha Hb]
    · iapply (bufs_odd m c t ht _ _)
      isplitl [Ha]; · iexact Ha
      iexact Hb
    isplitl [Hg]; · iexact Hg
    iapply (rest_next m c t (by omega) (by omega))
    isplitl [Hacc]; · iexact Hacc
    isplitl [Hdw]; · iexact Hdw
    iexact Hc
  isplitl [Ho]; · iexact Ho
  iexact Hw

/-- An odd grid point that waits first. -/
theorem keeps_odd_wait (hw : t.val = 49 ∨ t.val = 97 ∨ t.val = 145) : Keeps m c t := by
  intro o4 o5 o6 o7
  have ht : t.val % 2 = 1 := by omega
  have hinb1 := Facts₀.k0_off1_inb (grid0.coords t) ((cond2_iff t).mpr hw)
  rw [Phi_fly m c hw, Phi_rest m c (by omega), bodyAt0, kernel_eq]
  iintro ⟨⟨Hb, Hg, Hf⟩, Ho, Hw⟩
  ihave Hb2 := (bufs_at_odd m c ht) $$ Hb
  icases Hb2 with ⟨%b, %yb, Ha, Hb⟩
  have h1 := fun hs hd => wp_keep_r c iprop(pair c xaM yaM (xHat m c (t.val - 1)) (yHat m c (t.val - 1)) ∗ wins m c t o4 o5 o6 o7 ∗ pair c xbM ybM b yb)
    (wait_ok c (k0_off1 (grid0.coords t)) hinb1 (hs := hs) (hd := hd)
      (dwAt m c ((t.val - 1) / 48)) (accS m c (t.val - 1)))
  have h2 := fun hs hd => wp_keep_r c iprop(dwPt c (dwAt m c ((t.val - 1) / 48)) ∗ cell0 c ∗ (∃ W, owes (c : Thread nD τ) 0 W))
    (step_ok m c t (by omega) xaM yaM xbM (Memref.isWhole_whole _) ybM (Memref.isWhole_whole _) hs hd (accS m c (t.val - 1)) (fun _ => rfl) o4 o5 o6 o7 b yb)
  iapply (wp_use c (body_odd_wait c t _ _ _ _ _ _ _ _ _ _ _ _ _ _ _ _ _ _ _ _ _ _ hw (h1 _ _) ((show _ ⊢ _ from ?_).trans (h2 _ _))))
  · iintro ⟨⟨Hacc, Hdw, Hc, Ho⟩, Ha, Hw, Hb⟩
    isplitl [Hacc Ha Hw Hb]
    · isplitl [Ha Hacc]
      · isplitl [Ha]; · iexact Ha
        iexact Hacc
      isplitl [Hw]; · iexact Hw
      iexact Hb
    isplitl [Hdw]; · iexact Hdw
    isplitl [Hc]; · iexact Hc
    iexact Ho
  isplitl [Hf Ho Ha Hw Hb]
  · isplitl [Hf Ho]
    · isplitl [Hf]; · iexact Hf
      iexact Ho
    isplitl [Ha]; · iexact Ha
    isplitl [Hw]; · iexact Hw
    iexact Hb
  iintro ⟨⟨⟨Ha, Hacc⟩, Hw, Hb⟩, Hdw, Hc, Ho⟩
  isplitr [Ho Hw]
  · isplitl [Ha Hb]
    · iapply (bufs_odd m c t ht _ _)
      isplitl [Ha]; · iexact Ha
      iexact Hb
    isplitl [Hg]; · iexact Hg
    iapply (rest_next m c t (by omega) (by omega))
    isplitl [Hacc]; · iexact Hacc
    isplitl [Hdw]; · iexact Hdw
    iexact Hc
  isplitl [Ho]; · iexact Ho
  iexact Hw

/-- An even grid point inside a pass. -/
theorem keeps_even (ht : t.val % 2 = 0) (h0 : t.val ≠ 0) (hw : t.val % 48 ≠ 0) : Keeps m c t := by
  intro o4 o5 o6 o7
  rw [Phi_rest m c (by omega), Phi_rest m c (by omega), bodyAt0, kernel_eq]
  iintro ⟨⟨Hb, Hg, Hr⟩, Ho, Hw⟩
  ihave Hr2 := (rest_any m c) $$ Hr
  icases Hr2 with ⟨%A, %hA, Hacc, Hdw, Hc⟩
  ihave Hb2 := (bufs_at_even m c ht h0) $$ Hb
  icases Hb2 with ⟨%a, %ya, Ha, Hb⟩
  iapply (wp_use c (body_even c t _ _ _ _ _ _ _ _ _ _ _ _ _ _ _ _ _ _ _ _ _ _ ht h0 hw
    (step_ok m c t (by omega) xbM ybM xaM (Memref.isWhole_whole _) yaM (Memref.isWhole_whole _) _ _ A hA o4 o5 o6 o7 a ya)))
  isplitl [Hw Ha Hb Hacc]
  · isplitl [Hb Hacc]
    · isplitl [Hb]; · iexact Hb
      iexact Hacc
    isplitl [Hw]; · iexact Hw
    iexact Ha
  iintro ⟨⟨Hb, Hacc⟩, Hw, Ha⟩
  isplitr [Ho Hw]
  · isplitl [Ha Hb]
    · iapply (bufs_even m c t ht _ _)
      isplitl [Ha]; · iexact Ha
      iexact Hb
    isplitl [Hg]; · iexact Hg
    iapply (rest_next m c t (by omega) (by omega))
    isplitl [Hacc]; · iexact Hacc
    isplitl [Hdw]; · iexact Hdw
    iexact Hc
  isplitl [Ho]; · iexact Ho
  iexact Hw

/-- The end of a pass but the last: the transfer of the accumulator is left in flight. -/
theorem keeps_even_enq (ht : t.val % 48 = 0) (h0 : t.val ≠ 0) (hw : t.val ≠ 192) : Keeps m c t := by
  intro o4 o5 o6 o7
  have hlt := t_lt t
  have hinb := Facts₀.k0_off2_inb (grid0.coords t) ((cond5_iff t).mpr ⟨ht, h0⟩)
  rw [Phi_rest m c (by omega), Phi_fly m c (by omega), bodyAt0, kernel_eq, Nat.add_sub_cancel, ← dw_step m c t ht h0 hinb]
  iintro ⟨⟨Hb, Hg, Hr⟩, Ho, Hw⟩
  ihave Hr2 := (rest_any m c) $$ Hr
  icases Hr2 with ⟨%A, %hA, Hacc, Hdw, Hc⟩
  ihave Hb2 := (bufs_at_even m c (by omega) h0) $$ Hb
  icases Hb2 with ⟨%a, %ya, Ha, Hb⟩
  have h1 := fun hs hd => wp_keep_r c iprop(dwPt c (dwAt m c ((t.val - 1) / 48)) ∗ cell0 c)
    (step_ok m c t h0 xbM ybM xaM (Memref.isWhole_whole _) yaM (Memref.isWhole_whole _) hs hd A hA o4 o5 o6 o7 a ya)
  have h2 := fun hs hd hq => wp_keep_r c iprop(pair c xbM ybM (xHat m c (t.val - 1)) (yHat m c (t.val - 1)) ∗ winsDone m c t ∗ pair c xaM yaM (xHat m c t.val) (yHat m c t.val))
    (enqueue_ok c (k0_off2 (grid0.coords t)) hinb (hs := hs) (hd := hd) (ht := hq) (dwAt m c ((t.val - 1) / 48)) (accS m c t.val))
  iapply (wp_use c (body_even_enq c t _ _ _ _ _ _ _ _ _ _ _ _ _ _ _ _ _ _ _ _ _ _ ht h0 hw (h1 _ _) ((show _ ⊢ _ from ?_).trans (h2 _ _ _))))
  · iintro ⟨⟨⟨Hb, Hacc⟩, Hw, Ha⟩, Hdw, Hc⟩
    isplitl [Hacc Hdw Hc]
    · isplitl [Hacc]; · iexact Hacc
      isplitl [Hdw]; · iexact Hdw
      iexact Hc
    isplitl [Hb]; · iexact Hb
    isplitl [Hw]; · iexact Hw
    iexact Ha
  isplitl [Hw Ha Hb Hacc Hdw Hc]
  · isplitl [Hw Ha Hb Hacc]
    · isplitl [Hb Hacc]
      · isplitl [Hb]; · iexact Hb
        iexact Hacc
      isplitl [Hw]; · iexact Hw
      iexact Ha
    isplitl [Hdw]; · iexact Hdw
    iexact Hc
  iintro ⟨Hf, Hb, Hw, Ha⟩
  isplitr [Ho Hw]
  · isplitl [Ha Hb]
    · iapply (bufs_even m c t (by omega) _ _)
      isplitl [Ha]; · iexact Ha
      iexact Hb
    isplitl [Hg]; · iexact Hg
    iexact Hf
  isplitl [Ho]; · iexact Ho
  iexact Hw

/-- The last grid point: the transfer of the accumulator is started and waited for. -/
theorem keeps_last (ht : t.val = 192) : Keeps m c t := by
  intro o4 o5 o6 o7
  have hinb := Facts₀.k0_off2_inb (grid0.coords t) ((cond5_iff t).mpr (by omega))
  have hd4 := dw_step m c t (by omega) (by omega) hinb
  rw [Phi_rest m c (by omega), Phi_rest m c (by omega), bodyAt0, kernel_eq]
  unfold rest
  rw [Nat.add_sub_cancel, ← hd4]
  iintro ⟨⟨Hb, Hg, ⟨%A, %hA, Hacc, Hdw, Hc⟩⟩, Ho, Hw⟩
  ihave Hb2 := (bufs_at_even m c (by omega) (by omega)) $$ Hb
  icases Hb2 with ⟨%a, %ya, Ha, Hb⟩
  have h1 := fun hs hd => wp_keep_r c iprop(dwPt c (dwAt m c ((t.val - 1) / 48)) ∗ cell0 c ∗ (∃ W, owes (c : Thread nD τ) 0 W))
    (step_ok m c t (by omega) xbM ybM xaM (Memref.isWhole_whole _) yaM (Memref.isWhole_whole _) hs hd A hA o4 o5 o6 o7 a ya)
  have h2 := fun hs hd hq => wp_keep_r c iprop((∃ W, owes (c : Thread nD τ) 0 W) ∗ pair c xbM ybM (xHat m c (t.val - 1)) (yHat m c (t.val - 1)) ∗ winsDone m c t ∗ pair c xaM yaM (xHat m c t.val) (yHat m c t.val))
    (enqueue_ok c (k0_off2 (grid0.coords t)) hinb (hs := hs) (hd := hd) (ht := hq) (dwAt m c ((t.val - 1) / 48)) (accS m c t.val))
  have h3 := fun hs hd => wp_keep_r c iprop(pair c xbM ybM (xHat m c (t.val - 1)) (yHat m c (t.val - 1)) ∗ winsDone m c t ∗ pair c xaM yaM (xHat m c t.val) (yHat m c t.val))
    (wait_ok c (k0_off3 (grid0.coords t)) (Facts₀.k0_off3_inb (grid0.coords t) ((cond6_iff t).mpr ht)) (hs := hs) (hd := hd)
      ((Rect.unit (s := S4096x4608) (k0_off2 (grid0.coords t)) S1024x4608.size hinb).overlay (dwAt m c ((t.val - 1) / 48)) (accS m c t.val)) (accS m c t.val))
  iapply (wp_use c (body_last c t _ _ _ _ _ _ _ _ _ _ _ _ _ _ _ _ _ _ _ _ _ _ ht (h1 _ _) ((show _ ⊢ _ from ?_).trans (h2 _ _ _)) ((show _ ⊢ _ from ?_).trans (h3 _ _))))
  · iintro ⟨⟨⟨Hb, Hacc⟩, Hw, Ha⟩, Hdw, Hc, Ho⟩
    isplitl [Hacc Hdw Hc]
    · isplitl [Hacc]; · iexact Hacc
      isplitl [Hdw]; · iexact Hdw
      iexact Hc
    isplitl [Ho]; · iexact Ho
    isplitl [Hb]; · iexact Hb
    isplitl [Hw]; · iexact Hw
    iexact Ha
  · iintro ⟨Hf, Ho, H⟩
    isplitl [Hf Ho]
    · isplitl [Hf]; · iexact Hf
      iexact Ho
    iexact H
  isplitl [Hw Ha Hb Hacc Hdw Hc Ho]
  · isplitl [Hw Ha Hb Hacc]
    · isplitl [Hb Hacc]
      · isplitl [Hb]; · iexact Hb
        iexact Hacc
      isplitl [Hw]; · iexact Hw
      iexact Ha
    isplitl [Hdw]; · iexact Hdw
    isplitl [Hc]; · iexact Hc
    iexact Ho
  iintro ⟨⟨Hacc, Hdw, Hc, Ho⟩, Hb, Hw, Ha⟩
  isplitr [Ho Hw]
  · isplitl [Ha Hb]
    · iapply (bufs_even m c t (by omega) _ _)
      isplitl [Ha]; · iexact Ha
      iexact Hb
    isplitl [Hg]; · iexact Hg
    iexists _
    isplitr
    swap
    · isplitl [Hacc]; · iexact Hacc
      isplitl [Hdw]; · iexact Hdw
      iexact Hc
    ipureintro
    exact fun _ => rfl
  isplitl [Ho]; · iexact Ho
  iexact Hw

/-- Every grid point. -/
theorem keeps : Keeps m c t := by
  by_cases h0 : t.val = 0
  · exact keeps_first m c t h0
  by_cases h1 : t.val % 2 = 1
  · by_cases hw : t.val = 49 ∨ t.val = 97 ∨ t.val = 145
    · exact keeps_odd_wait m c t hw
    · exact keeps_odd m c t h1 hw
  by_cases h48 : t.val % 48 = 0
  · by_cases hl : t.val = 192
    · exact keeps_last m c t hl
    · exact keeps_even_enq m c t h48 h0 hl
  · exact keeps_even m c t (by omega) h0 h48

end

end Cert.KernelIdeal.Hand

end
-- ==== Proof.Launch.lean ====
module

public import proofs.«01_k».proof.Proof.Run
public import Idealize.ShloMosaic.Lib.Pipeline.FrameValue

/-!
# The run of the kernel as launched

Every grid point meets the pipeline's obligation, the kernel's own buffers enter and leave the run
as stated, and so the run ends with the arguments unchanged, every semaphore at zero, and the result
of the kernel's own transfers at its four row tiles.
-/

@[expose] public section

set_option maxRecDepth 16384

noncomputable section

namespace Cert.KernelIdeal.Hand

open Cert.KernelIdeal
open Cert.KernelIdeal.Gen (N_0 V V_main_arg0 V_main_arg1 iblk st0_0 st0_1 st0_2 st0_3 st0_4 st0_5 bodyAt0 bigSep_W0 launch0 hostOps0 hostOps0_sub hostOps0_fresh main_chain scopedRest0_eq)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Facts]

local notation "𝕄" => MT nD τ sig Unit (Elt F) ℕ (Pipeline.UD sig nD τ) ℕ

variable (m : (ℓ : Loc nD τ sig) → Buf (Elt F) ℓ) (ρ : Dev nD → PrngReg)

/-! ## The obligation and the run -/

theorem sound_body (c : Dev nD) (t : Fin cfg0.N) : bodyPre m c t ⊢ WP c (bodyAt0 t) fun _ => bodyPost m c t := by
  unfold bodyPre bodyPost winsPre
  rw [show (dats m 0 c).Φ t.succ = Phi m c (t.val + 1) from rfl, show (dats m 0 c).Φ t.castSucc = Phi m c t.val from rfl,
    after0_0, after0_1, after0_2, after0_3, after0_4, after0_5]
  simp only [before0_0, before0_1]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩, ⟨%d2, H2⟩, ⟨%d3, H3⟩, ⟨%d4, H4⟩, ⟨%d5, H5⟩⟩
  iapply (wp_use c (keeps m c t ((dats m 0 c).before 2 t d2) ((dats m 0 c).before 3 t d3) ((dats m 0 c).before 4 t d4) ((dats m 0 c).before 5 t d5)))
  isplitl [HP HW H0 H1 H2 H3 H4 H5]
  · isplitl [HP]; · iexact HP
    isplitl [HW]; · iexists W; iexact HW
    unfold wins
    isplitl [H0]; · iexact H0
    isplitl [H1]; · iexact H1
    isplitl [H2]; · iexact H2
    isplitl [H3]; · iexact H3
    isplitl [H4]; · iexact H4
    iexact H5
  unfold winsDone wins
  iintro ⟨HP, ⟨%W', HW'⟩, H0, H1, H2, H3, H4, H5⟩
  isplitl [HP]; · iexact HP
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- No output window is idle at any grid point: one of the three kinds of point holds. -/
theorem idle_false : ∀ (w : Fin 6) (t : Fin cfg0.N), cfg0.idle w (cfg0.grid.coords t) = false := by
  have key : ∀ t : Fin grid0.N, (!(k0_cond1 (grid0.coords t) == 1#1) && !(k0_cond3 (grid0.coords t) == 1#1) && !(k0_cond4 (grid0.coords t) == 1#1)) = false := by
    decide +kernel
  intro w t
  match w with
  | 0 => rfl
  | 1 => rfl
  | 2 => exact key t
  | 3 => exact key t
  | 4 => exact key t
  | 5 => exact key t

/-- A window that is not idle is handed back at its contents. -/
theorem handed {X R : sProp 𝕄} (b f : Bool) : b = false →
    (R ⊢ (match b with | true => (match f with | false => X | true => R) | false => R : sProp 𝕄)) := by
  rintro rfl; exact .rfl

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  refine BIClass.sep_mono .rfl (BIClass.sep_mono .rfl (BIClass.sep_mono (PROP := sProp 𝕄) .rfl (BIClass.sep_mono (PROP := sProp 𝕄) .rfl
    (BIClass.sep_mono (PROP := sProp 𝕄) ?_ (BIClass.sep_mono (PROP := sProp 𝕄) ?_ (BIClass.sep_mono (PROP := sProp 𝕄) ?_ ?_))))))
  · exact handed (F := F) _ ((cfg0.win 2).flush t) (idle_false 2 t)
  · exact handed (F := F) _ ((cfg0.win 3).flush t) (idle_false 3 t)
  · exact handed (F := F) _ ((cfg0.win 4).flush t) (idle_false 4 t)
  · exact handed (F := F) _ ((cfg0.win 5).flush t) (idle_false 5 t)

/-- The kernel's own transfers' one cell. -/
abbrev osem0 : Fin 1 → SemLoc sig := fun j => (![SemLoc.dma cc0_scratch5.sem] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch5.sem) 0) := by
  rw [Pipeline.ownSems0_eq_of_list c osem0 [0] (by decide) (by decide)]; rfl

/-- The result the kernel's transfers write. -/
def R0 : Finset (Ref sig .tc) := {main_v2_0}
theorem R0_sub : R0 ⊆ Pipeline.restRefs sig spec0 \ ∅ := by decide

/-- What the run leaves in the result the kernel's transfers write. -/
def G (c : Dev nD) (b : Ref sig .tc) : Buf (Elt F) ((c : Thread nD τ).loc b) := Function.update (V m c) main_v2_0 (dwFull m c) b

theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub Gen.hostOps0_fresh main_chain

theorem ΦDRG0_eq (W : (c : Dev nD) → (b : Ref sig .tc) → Buf (Elt F) ((c : Thread nD τ).loc b)) (c : Dev nD) :
    (Pipeline.ΦDRG osem0 spec0 ∅ R0 (V m) W c : sProp 𝕄)
      = iprop(Pipeline.scopedRest (Ix := Unit) (Name := ℕ) (U := Pipeline.UD sig nD τ) (Lvl := ℕ) (Val := Elt F) spec0 c
        ∗ (∃ r, prngReg c r) ∗ semVal ((c : Thread nD τ), SemLoc.dma cc0_scratch5.sem) 0 ∗ emp ∗ (((c : Thread nD τ).loc main_v2_0) ↦{fullShare} W c main_v2_0)) := by
  rw [Pipeline.ΦDRG_eq, ownSems00_eq, Pipeline.routed, R0, BI.bigSep_singleton, BI.bigSep_empty]; rfl

theorem enter (c : Dev nD) : Pipeline.ΦDRG osem0 spec0 ∅ R0 (V m) (V m) c ⊢ (dats m 0 c).Φ 0 := by
  show _ ⊢ Phi m c 0
  have hD : dwAt m c ((0 - 1) / 48) = V m c main_v2_0 := mix_zero _ _ _
  rw [ΦDRG0_eq, scopedRest0_eq, Phi_rest m c (n := 0) (by omega)]
  unfold bufs rest accPt dwPt
  simp only [hD, owns_whole]
  iintro ⟨⟨⟨%f0, H0⟩, ⟨%f1, H1⟩, ⟨%f2, H2⟩, ⟨%f3, H3⟩, ⟨%f4, H4⟩⟩, Hr, Hs, -, Hd⟩
  isplitl [H1 H2 H3 H4]
  · iexists f1, f2, f3, f4
    isplitr; · ipureintro; exact ⟨fun h => absurd h (by omega), fun _ h => absurd rfl h⟩
    isplitl [H1]; · iexact H1
    isplitl [H2]; · iexact H2
    isplitl [H3]; · iexact H3
    iexact H4
  isplitl [Hr]; · iexact Hr
  iexists f0
  isplitr; · ipureintro; exact fun h => absurd h (by omega)
  isplitl [H0]; · iexact H0
  isplitl [Hd]; · iexact Hd
  iexact Hs

theorem leave (c : Dev nD) : (dats m 0 c).Φ (Fin.last cfg0.N) ⊢ Pipeline.ΦDRG osem0 spec0 ∅ R0 (V m) (G m) c := by
  show Phi m c 193 ⊢ _
  have hD : dwAt m c ((193 - 1) / 48) = G m c main_v2_0 := by
    unfold G; rw [Function.update_self]; exact mix_all _ (by show 4096 ≤ 4096; omega) _ _
  rw [ΦDRG0_eq, scopedRest0_eq, Phi_rest m c (n := 193) (by omega)]
  unfold bufs rest accPt dwPt
  simp only [hD, owns_whole]
  iintro ⟨⟨%f1, %f2, %f3, %f4, -, H1, H2, H3, H4⟩, Hr, ⟨%f0, -, H0, Hd, Hs⟩⟩
  isplitl [H0 H1 H2 H3 H4]
  · isplitl [H0]; · iexists f0; iexact H0
    isplitl [H1]; · iexists f1; iexact H1
    isplitl [H2]; · iexists f2; iexact H2
    isplitl [H3]; · iexists f3; iexact H3
    iexists f4; iexact H4
  isplitl [Hr]; · iexact Hr
  isplitl [Hs]; · iexact Hs
  isplitr; · exact .rfl
  iexact Hd

set_option backward.isDefEq.respectTransparency.types false in
/-- The run of the kernel: every window's array as its blocks leave it, the transfers' result at its four tiles,
    every other buffer untouched, every semaphore at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V := V m) (hmain := hmain m) (hA := A_eq m) (G := G m)
    (hin := fun c => enter m c) (hout := fun c => leave m c) (hQ' := fun _ h => h)

/-- From any memory with every semaphore at zero, the kernel runs to completion, leaves its arguments as they were
    and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run defs _ _).mono ?_ (run_main m ρ)
  rintro r ⟨h, hs⟩
  have h0 : main_arg0 ∈ Pipeline.restRefs sig spec0 \ R0 := by decide
  have h1 : main_arg1 ∈ Pipeline.restRefs sig spec0 \ R0 := by decide
  exact ⟨fun c => ⟨((h.1 c).2 main_arg0 h0).trans (V_main_arg0 m c), ((h.1 c).2 main_arg1 h1).trans (V_main_arg1 m c)⟩, hs⟩

end Cert.KernelIdeal.Hand

end
-- ==== Proof.KernelFrame.lean ====
module

public import proofs.«01_k».proof.Kernel
public import proofs.«01_k».proof.Proof.Launch
public import Idealize.ShloMosaic.Lib.Tactic

/-!
# The same frame for the program before idealisation

No operation is rewritten between the two programs, so they are the same text under two names; what is
proved of one at every float instance holds of the other.
-/

@[expose] public section

set_option maxRecDepth 16384

noncomputable section

namespace Cert.KernelIdeal.Hand

open Idealize.ShloMosaic Idealize.SL.Sem Idealize.ShloMosaic.Tactic

variable {F : FTy → Type} [FloatOps F]

/-- From any memory with every semaphore at zero, the idealised kernel runs, keeps its arguments, and ends with
    every semaphore at zero. -/
def FrameIdeal [hKernelIdeal : Cert.KernelIdeal.Facts] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- The same of the kernel before idealisation. -/
def FrameKernel [hKernel : Cert.Kernel.Facts] : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

/-- The two statements are one. -/
theorem frameKernel_eq [Cert.KernelIdeal.Facts] [Cert.Kernel.Facts] : FrameKernel (F := F) = FrameIdeal (F := F) := by
  unfold FrameKernel FrameIdeal
  sl_kernel_rfl

theorem frameKernel [Cert.KernelIdeal.Facts] [Cert.Kernel.Facts] : FrameKernel (F := F) := by
  rw [frameKernel_eq]; exact fun m g => frame m g

end Cert.KernelIdeal.Hand

end
-- ==== Proof.Scalar.lean ====
module

public import proofs.«01_k».proof.Proof.Blocks
public import Idealize.ShloMosaic.PureOps.Ideal.Laws

/-!
# The scale of one block, as the kernel and as the reference compute it

The kernel finds the exponent field of `q` by a binary search over the bits of the field and puts the
scale together from it; the reference takes the logarithm. Over the extended reals the two agree on
every block whose greatest magnitude is zero or keeps `q` a normal number below 2^126.
-/

@[expose] public section

set_option maxRecDepth 16384

noncomputable section

namespace Cert.KernelIdeal.Hand

open Idealize.ShloMosaic

/-- The word with exponent field `k` and nothing else. -/
def enc (k : ℕ) : BitVec 32 := BitVec.ofNat 32 (k * 8388608)

theorem enc_fields : ∀ k : Fin 256, ((enc k.val).extractLsb' 31 1 == 1#1) = false ∧ ((enc k.val).extractLsb' 23 8).toNat = k.val
    ∧ ((enc k.val).extractLsb' 0 23).toNat = 0 := by decide +kernel

/-- What the word denotes: a power of two. -/
theorem val_enc {k : ℕ} (h1 : 1 ≤ k) (h2 : k ≤ 254) : Ideal.ofBits .f32 (enc k) = (((2 : ℝ) ^ ((k : ℤ) - 127) : ℝ) : EReal) := by
  obtain ⟨hs, he, hf⟩ := enc_fields ⟨k, by omega⟩
  simp only at hs he hf
  simp only [Ideal.ofBits, Ideal.ieee]
  norm_num only [hs, he, hf]
  rw [if_neg (by omega), if_neg (by omega)]
  congr 1
  simp only [Bool.false_eq_true, if_false]
  rw [show (k : ℤ) - 127 = 23 + ((k : ℤ) - 127 - 23) by ring, zpow_add₀ (by norm_num : (2 : ℝ) ≠ 0)]
  norm_num

theorem val_enc_top : Ideal.ofBits .f32 (enc 255) = ⊤ := by
  simp [Ideal.ofBits, Ideal.ieee, enc]

/-- One step of the search on one element. -/
def stepS (q : EReal) (b e : BitVec 32) : BitVec 32 := Scalar.select (Ideal.cmp .olt q (Ideal.ofBits .f32 (e ||| b))) e (e ||| b)

/-- The search on one element. -/
def expS (q : EReal) : BitVec 32 :=
  stepS q 8388608#32 (stepS q 16777216#32 (stepS q 33554432#32 (stepS q 67108864#32
    (stepS q 134217728#32 (stepS q 268435456#32 (stepS q 536870912#32 (stepS q 1073741824#32 0#32)))))))

/-- The same step on the field alone, given the field `K` that is sought. -/
def stepN (K j c : ℕ) : ℕ := if c ||| 2 ^ j ≤ K then c ||| 2 ^ j else c

theorem stepN_lt {K j c : ℕ} (hj : j < 8) (hc : c < 256) : stepN K j c < 256 := by
  have h : c ||| 2 ^ j < 2 ^ 8 := Nat.or_lt_two_pow hc (Nat.pow_lt_pow_right (by norm_num) hj)
  unfold stepN; split <;> omega

theorem enc_or : ∀ (j : Fin 8) (c : Fin 256), enc c.val ||| enc (2 ^ j.val) = enc (c.val ||| 2 ^ j.val) := by decide +kernel

theorem search_nat : ∀ K : Fin 256, stepN K.val 0 (stepN K.val 1 (stepN K.val 2 (stepN K.val 3 (stepN K.val 4 (stepN K.val 5
    (stepN K.val 6 (stepN K.val 7 0))))))) = K.val := by decide +kernel

/-- The search finds the field `K` when the powers of two at most `q` are those of the fields up to `K`. -/
theorem expS_eq {q : EReal} {K : ℕ} (hK : K < 256) (h : ∀ c, 1 ≤ c → c < 256 → (Ideal.ofBits .f32 (enc c) ≤ q ↔ c ≤ K)) : expS q = enc K := by
  have step : ∀ j c, j < 8 → c < 256 → stepS q (enc (2 ^ j)) (enc c) = enc (stepN K j c) := by
    intro j c hj hc
    have hlt : c ||| 2 ^ j < 2 ^ 8 := Nat.or_lt_two_pow hc (Nat.pow_lt_pow_right (by norm_num) hj)
    have hpos : 1 ≤ c ||| 2 ^ j := le_trans (Nat.one_le_two_pow) Nat.right_le_or
    have ho := enc_or ⟨j, hj⟩ ⟨c, hc⟩
    simp only at ho
    unfold stepS stepN Scalar.select Ideal.cmp
    rw [ho]
    by_cases hle : c ||| 2 ^ j ≤ K
    · have := (h _ hpos hlt).2 hle
      rw [decide_eq_false (not_lt.2 this), if_pos hle]
      rfl
    · have := fun hh => hle ((h _ hpos hlt).1 hh)
      rw [decide_eq_true (not_le.1 this), if_neg hle]
      rfl
  have e0 : (0#32 : BitVec 32) = enc 0 := by decide
  unfold expS
  rw [e0, show (8388608#32 : BitVec 32) = enc (2 ^ 0) by decide, show (16777216#32 : BitVec 32) = enc (2 ^ 1) by decide,
    show (33554432#32 : BitVec 32) = enc (2 ^ 2) by decide, show (67108864#32 : BitVec 32) = enc (2 ^ 3) by decide,
    show (134217728#32 : BitVec 32) = enc (2 ^ 4) by decide, show (268435456#32 : BitVec 32) = enc (2 ^ 5) by decide,
    show (536870912#32 : BitVec 32) = enc (2 ^ 6) by decide, show (1073741824#32 : BitVec 32) = enc (2 ^ 7) by decide]
  have l7 := stepN_lt (K := K) (j := 7) (c := 0) (by norm_num) (by norm_num)
  have l6 := stepN_lt (K := K) (j := 6) (by norm_num) l7
  have l5 := stepN_lt (K := K) (j := 5) (by norm_num) l6
  have l4 := stepN_lt (K := K) (j := 4) (by norm_num) l5
  have l3 := stepN_lt (K := K) (j := 3) (by norm_num) l4
  have l2 := stepN_lt (K := K) (j := 2) (by norm_num) l3
  have l1 := stepN_lt (K := K) (j := 1) (by norm_num) l2
  rw [step 7 0 (by norm_num) (by norm_num), step 6 _ (by norm_num) l7, step 5 _ (by norm_num) l6, step 4 _ (by norm_num) l5,
    step 3 _ (by norm_num) l4, step 2 _ (by norm_num) l3, step 1 _ (by norm_num) l2, step 0 _ (by norm_num) l1]
  exact congrArg enc (search_nat ⟨K, hK⟩)

/-- The kernel's scale from the exponent bits, on one element. -/
def scaleS (e : BitVec 32) : EReal :=
  Scalar.select (IntOp.cmpi .eq e 0#32) (Ideal.ofBits .f32 0x3F800000#32) (Ideal.ofBits .f32 (e + 8388608#32))
/-- The kernel's reciprocal of the scale from the exponent bits, on one element. -/
def invS (e : BitVec 32) : EReal :=
  Scalar.select (IntOp.cmpi .eq e 0#32) (Ideal.ofBits .f32 0x3F800000#32) (Ideal.ofBits .f32 (2122317824#32 - e))

theorem enc_succ : ∀ k : Fin 253, enc k.val + 8388608#32 = enc (k.val + 1) ∧ 2122317824#32 - enc k.val = enc (253 - k.val)
    ∧ (enc k.val = 0#32 ↔ k.val = 0) := by decide +kernel

theorem scaleS_zero : scaleS (enc 0) = 1 ∧ invS (enc 0) = 1 := by
  have h1 : Ideal.ofBits .f32 0x3F800000#32 = 1 := by simp [Ideal.ofBits, Ideal.ieee, -EReal.coe_mul]; norm_num
  unfold scaleS invS
  rw [h1]
  exact ⟨rfl, rfl⟩

theorem scaleS_enc {K : ℕ} (h1 : 1 ≤ K) (h2 : K ≤ 252) :
    scaleS (enc K) = (((2 : ℝ) ^ ((K : ℤ) - 126) : ℝ) : EReal) ∧ invS (enc K) = (((2 : ℝ) ^ (126 - (K : ℤ)) : ℝ) : EReal) := by
  obtain ⟨ha, hb, hz⟩ := enc_succ ⟨K, by omega⟩
  simp only at ha hb hz
  have hne : enc K ≠ 0#32 := fun h => by have := hz.1 h; omega
  have hc : IntOp.cmpi .eq (enc K) 0#32 = 0#1 := by
    show BitVec.ofBool (enc K == 0#32) = 0#1
    rw [beq_false_of_ne hne]; rfl
  unfold scaleS invS Scalar.select
  rw [hc, ha, hb, val_enc (by omega) (by omega), val_enc (by omega) (by omega)]
  constructor
  · rw [if_neg (by decide)]; congr 2; push_cast; ring
  · rw [if_neg (by decide)]; congr 2; rw [Nat.cast_sub (by omega)]; push_cast; ring

/-- The reference's exponent of the scale, on one element: `a` is the block's greatest magnitude and `q` its
    scaled value. -/
def expR (a q : EReal) : EReal :=
  Scalar.select (Ideal.cmp .oeq a (Ideal.ofBits .f32 0x00000000#32)) (Ideal.ofBits .f32 0x00000000#32)
    (Ideal.liftRound Int.floor (Ideal.div (Ideal.log q) ((Real.log 2 : ℝ) : EReal)) + Ideal.ofBits .f32 0x3F800000#32)

/-- The reference's scale on one element. -/
def scaleR (a q : EReal) : EReal := Ideal.exp2 (expR a q)
/-- The reference's reciprocal of the scale on one element. -/
def invR (a q : EReal) : EReal := Ideal.exp2 (Ideal.ofBits .f32 0x00000000#32 - expR a q)

/-- What the precondition asks of a block with greatest magnitude `a`: that it is zero, or its scaled value is at
    least the least normal number and below 2^126. -/
def Fits (cb : BitVec 32) (a : EReal) : Prop :=
  a = 0 ∨ ((((2 : ℝ) ^ (-126 : ℤ) : ℝ) : EReal) ≤ a * Ideal.ofBits .f32 cb ∧ a * Ideal.ofBits .f32 cb < (((2 : ℝ) ^ (126 : ℤ) : ℝ) : EReal))

/-- The two scales and their reciprocals agree on a block that fits. -/
theorem scale_agree {cb : BitVec 32} {c : ℝ} (hcb : Ideal.ofBits .f32 cb = (c : EReal)) (hc : 0 < c) {a : EReal} (ha : Fits cb a) :
    scaleS (expS (a * Ideal.ofBits .f32 cb)) = scaleR a (a * Ideal.ofBits .f32 cb)
    ∧ invS (expS (a * Ideal.ofBits .f32 cb)) = invR a (a * Ideal.ofBits .f32 cb) := by
  have z0 : Ideal.ofBits .f32 0x00000000#32 = 0 := Ideal.ofBits_zero_f32
  have o1 : Ideal.ofBits .f32 0x3F800000#32 = 1 := by simp [Ideal.ofBits, Ideal.ieee, -EReal.coe_mul]; norm_num
  rcases ha with rfl | ⟨hl, hb⟩
  · -- a zero block: the search finds no bit
    rw [zero_mul]
    have he : expS 0 = enc 0 := by
      refine expS_eq (by norm_num) fun k hk1 hk2 => ?_
      constructor
      · intro h
        exfalso
        rcases Nat.lt_or_ge k 255 with hk | hk
        · rw [val_enc hk1 (by omega)] at h
          have h' : ((2 : ℝ) ^ ((k : ℤ) - 127)) ≤ 0 := by exact_mod_cast h
          exact absurd h' (not_le.2 (by positivity))
        · rw [show k = 255 by omega, val_enc_top] at h
          exact absurd (le_antisymm h le_top) (by simp)
      · intro h; omega
    have hr : expR 0 0 = 0 := by
      unfold expR; rw [z0]; simp [Scalar.select, Ideal.cmp]
    rw [he, scaleS_zero.1, scaleS_zero.2]
    unfold scaleR invR
    rw [hr, z0, sub_zero]
    have : Ideal.exp2 (0 : EReal) = 1 := by
      rw [show (0 : EReal) = ((0 : ℝ) : EReal) from rfl, Ideal.exp2_coe]; simp
    rw [this]; exact ⟨rfl, rfl⟩
  · rw [hcb] at hl hb
    lift a to ℝ using ⟨fun h => by rw [h, EReal.top_mul_coe_of_pos hc] at hb; exact absurd hb not_top_lt,
      fun h => by rw [h, EReal.bot_mul_coe_of_pos hc] at hl; exact absurd (le_bot_iff.1 hl) (EReal.coe_ne_bot _)⟩
    rw [← EReal.coe_mul, EReal.coe_le_coe_iff] at hl
    rw [← EReal.coe_mul, EReal.coe_lt_coe_iff] at hb
    rw [hcb, ← EReal.coe_mul]
    set q : ℝ := a * c with hq
    have hqlo : (2 : ℝ) ^ (-126 : ℤ) ≤ q := hl
    have hqhi : q < (2 : ℝ) ^ (126 : ℤ) := hb
    have hqpos : 0 < q := lt_of_lt_of_le (by positivity) hqlo
    have hapos : 0 < a := (pos_iff_pos_of_mul_pos hqpos).2 hc
    have hlog2 : 0 < Real.log 2 := Real.log_pos (by norm_num)
    -- `2 ^ n ≤ q` exactly for the integers up to the floor of the base-two logarithm
    have key : ∀ n : ℤ, (2 : ℝ) ^ n ≤ q ↔ n ≤ ⌊Real.log q / Real.log 2⌋ := by
      intro n
      rw [Int.le_floor, le_div_iff₀ hlog2, ← Real.log_zpow, Real.log_le_log_iff (by positivity) hqpos]
    set E : ℤ := ⌊Real.log q / Real.log 2⌋ with hE
    have hElo : -126 ≤ E := (key _).1 hqlo
    have hEhi : E < 126 := by
      by_contra h
      exact absurd ((key 126).2 (not_lt.1 h)) (not_le.2 hqhi)
    obtain ⟨K, hK⟩ : ∃ K : ℕ, (K : ℤ) = E + 127 := ⟨(E + 127).toNat, Int.toNat_of_nonneg (by omega)⟩
    have he : expS ((q : ℝ) : EReal) = enc K := by
      refine expS_eq (by omega) fun k hk1 hk2 => ?_
      rcases Nat.lt_or_ge k 255 with hk | hk
      · rw [val_enc hk1 (by omega), EReal.coe_le_coe_iff, key]; omega
      · rw [show k = 255 by omega, val_enc_top]
        exact ⟨fun h => absurd (top_le_iff.1 h) (EReal.coe_ne_top _), fun h => by omega⟩
    have hne : ¬ ((a : EReal) = 0) := by
      intro h
      have : a = 0 := by exact_mod_cast h
      exact absurd this hapos.ne'
    have hr : expR (a : EReal) ((q : ℝ) : EReal) = (((K : ℤ) - 126 : ℤ) : ℝ) := by
      unfold expR
      rw [z0, o1]
      have hcmp : Ideal.cmp .oeq (a : EReal) 0 = 0#1 := by simp [Ideal.cmp, hne, hapos.ne']
      unfold Scalar.select
      rw [hcmp, if_neg (by decide), Ideal.log_coe, if_neg (not_le.2 hqpos)]
      have hdiv : Ideal.div ((Real.log q : ℝ) : EReal) ((Real.log 2 : ℝ) : EReal) = ((Real.log q / Real.log 2 : ℝ) : EReal) := by
        unfold Ideal.div
        rw [if_neg (by intro h; have : Real.log 2 = 0 := by exact_mod_cast h
                       exact absurd this hlog2.ne'), div_eq_mul_inv, EReal.coe_mul, EReal.coe_inv]
      rw [hdiv]
      show ((E : ℝ) : EReal) + 1 = _
      have : (((K : ℤ) - 126 : ℤ) : ℝ) = (E : ℝ) + 1 := by rw [hK]; push_cast; ring
      rw [this]; push_cast; rfl
    obtain ⟨hs, hi⟩ := scaleS_enc (K := K) (by omega) (by omega)
    rw [he, hs, hi]
    unfold scaleR invR
    rw [hr, z0, zero_sub, Ideal.exp2_coe, ← EReal.coe_neg, Ideal.exp2_coe]
    constructor
    · congr 1
      exact (Real.rpow_intCast 2 _).symm
    · congr 1
      rw [show (-(((K : ℤ) - 126 : ℤ) : ℝ)) = ((126 - (K : ℤ) : ℤ) : ℝ) by push_cast; ring]
      exact (Real.rpow_intCast 2 _).symm

end Cert.KernelIdeal.Hand

end
-- ==== Proof.Quant.lean ====
module

public import proofs.«01_k».proof.Proof.Scalar
public import proofs.«01_k».proof.Proof.Tiles
public import proofs.«01_k».proof.Proof.Gen.ReferenceIdeal.Value
public import Idealize.ShloMosaic.Lib.Pipeline.Value
public import Idealize.ShloMosaic.Lib.Pointwise.Reshape

/-!
# The quantisation of a column, and the two programs' arrays in terms of it

A column is a function of the row number. Rows `32 * b` to `32 * b + 31` are block `b`. The greatest
magnitude, the scale, the codes and the dequantised values of a column are defined here once; the
kernel's tiles and the reference's whole arrays are then read, entry by entry, as these functions.
-/

@[expose] public section

set_option maxRecDepth 16384

noncomputable section

namespace Cert.KernelIdeal.Hand

open Idealize.ShloMosaic

/-! ## Columns -/

/-- Entry `(r, c)` of a matrix; zero outside. -/
def rd {R C : ℕ} (X : (⟨2, ![R, C]⟩ : Shape).Idx → EReal) (r c : ℕ) : EReal :=
  if h : r < R ∧ c < C then X (ix2 ⟨r, h.1⟩ ⟨c, h.2⟩) else 0

theorem rd_of {R C : ℕ} (X : (⟨2, ![R, C]⟩ : Shape).Idx → EReal) (i : (⟨2, ![R, C]⟩ : Shape).Idx) {r c : ℕ}
    (h0 : (i 0).val = r) (h1 : (i 1).val = c) : rd X r c = X i := by
  subst h0 h1
  have h : (i 0).val < R ∧ (i 1).val < C := ⟨(i 0).isLt, (i 1).isLt⟩
  unfold rd
  rw [dif_pos h]
  exact congrArg X (ix2_eta i)

/-- The greatest magnitude of block `b` of a column. -/
def amaxN (y : ℕ → EReal) (b : ℕ) : EReal :=
  (Finset.univ : Finset (Fin 32)).fold max (Ideal.ofBits .f32 0xFF800000#32) fun k => max (y (32 * b + k.val)) (-(y (32 * b + k.val)))

theorem amaxN_congr {y y' : ℕ → EReal} {b b' : ℕ} (h : ∀ k, k < 32 → y (32 * b + k) = y' (32 * b' + k)) : amaxN y b = amaxN y' b' := by
  unfold amaxN
  exact Finset.fold_congr fun k _ => by rw [h k.val k.isLt]

theorem ofBits_ninf : Ideal.ofBits .f32 0xFF800000#32 = ⊥ := by simp [Ideal.ofBits, Ideal.ieee]

theorem amaxN_sup (y : ℕ → EReal) (b : ℕ) :
    amaxN y b = (Finset.univ : Finset (Fin 32)).sup fun k => max (y (32 * b + k.val)) (-(y (32 * b + k.val))) := by
  unfold amaxN; rw [ofBits_ninf]; rfl

/-- The greatest magnitude is that of some row of the block. -/
theorem amaxN_mem (y : ℕ → EReal) (b : ℕ) : ∃ k : Fin 32, amaxN y b = max (y (32 * b + k.val)) (-(y (32 * b + k.val))) := by
  rw [amaxN_sup]
  obtain ⟨k, _, hk⟩ := Finset.exists_mem_eq_sup (Finset.univ : Finset (Fin 32)) ⟨0, Finset.mem_univ _⟩
    (fun k => max (y (32 * b + k.val)) (-(y (32 * b + k.val))))
  exact ⟨k, hk⟩

/-- The kernel's scale and reciprocal for block `b` of a column, `cb` being the reciprocal of the format's largest number. -/
def sK (cb : BitVec 32) (y : ℕ → EReal) (b : ℕ) : EReal := scaleS (expS (amaxN y b * Ideal.ofBits .f32 cb))
def iK (cb : BitVec 32) (y : ℕ → EReal) (b : ℕ) : EReal := invS (expS (amaxN y b * Ideal.ofBits .f32 cb))
/-- The reference's. -/
def sR (cb : BitVec 32) (y : ℕ → EReal) (b : ℕ) : EReal := scaleR (amaxN y b) (amaxN y b * Ideal.ofBits .f32 cb)
def iR (cb : BitVec 32) (y : ℕ → EReal) (b : ℕ) : EReal := invR (amaxN y b) (amaxN y b * Ideal.ofBits .f32 cb)

/-- The clipped code at row `r` of a column with reciprocal `inv` of its block. -/
def codeN (lo hi : EReal) (inv : ℕ → EReal) (y : ℕ → EReal) (r : ℕ) : EReal := min hi (max lo (y r * inv (r / 32)))
/-- The dequantised value at row `r`. -/
def hatN (lo hi : EReal) (inv s : ℕ → EReal) (y : ℕ → EReal) (r : ℕ) : EReal := codeN lo hi inv y r * s (r / 32)

/-! ## Shape changes between rows and blocks of rows -/

section
variable {α : Type} {R B C : ℕ}

theorem split_apply (x : (⟨2, ![R, C]⟩ : Shape).Idx → α) (h : (⟨2, ![R, C]⟩ : Shape).ShapeCasts ⟨3, ![B, 32, C]⟩) (j : (⟨3, ![B, 32, C]⟩ : Shape).Idx)
    (k : (⟨2, ![R, C]⟩ : Shape).Idx) (h0 : (k 0).val = 32 * (j 0).val + (j 1).val) (h1 : (k 1).val = (j 2).val) :
    shapeCast ⟨3, ![B, 32, C]⟩ x h j = x k := by
  refine shapeCast_apply x h j k ?_
  rw [rowMajor_val2 k C rfl, rowMajor_val3 j (32 * C) C rfl rfl, h0, h1]
  ring

theorem join_apply (x : (⟨3, ![B, 32, C]⟩ : Shape).Idx → α) (h : (⟨3, ![B, 32, C]⟩ : Shape).ShapeCasts ⟨2, ![R, C]⟩) (j : (⟨2, ![R, C]⟩ : Shape).Idx)
    (k : (⟨3, ![B, 32, C]⟩ : Shape).Idx) (h0 : (j 0).val = 32 * (k 0).val + (k 1).val) (h1 : (j 1).val = (k 2).val) :
    shapeCast ⟨2, ![R, C]⟩ x h j = x k := by
  refine shapeCast_apply x h j k ?_
  rw [rowMajor_val2 j C rfl, rowMajor_val3 k (32 * C) C rfl rfl, h0, h1]
  ring

theorem spread_apply (x : (⟨2, ![B, C]⟩ : Shape).Idx → α) (h : (⟨2, ![B, C]⟩ : Shape).ShapeCasts ⟨3, ![B, 1, C]⟩)
    (hb : (⟨3, ![B, 1, C]⟩ : Shape).Broadcasts ⟨3, ![B, 32, C]⟩) (j : (⟨3, ![B, 32, C]⟩ : Shape).Idx) :
    broadcastTo ⟨3, ![B, 32, C]⟩ (shapeCast ⟨3, ![B, 1, C]⟩ x h) hb j = x (ix2 (j 0) (j 2)) := by
  have hj0 : (j 0).val < B := (j 0).isLt
  have hj2 : (j 2).val < C := (j 2).isLt
  refine (broadcastTo_apply (t := ⟨3, ![B, 32, C]⟩) _ hb j (ix3 (j 0) ⟨0, by norm_num⟩ (j 2)) ?_).trans (shapeCast_apply x h _ (ix2 (j 0) (j 2)) ?_)
  · intro a
    match a with
    | ⟨0, _⟩ =>
      show (j 0).val = if B = 1 then 0 else (j 0).val
      split <;> omega
    | ⟨1, _⟩ => rfl
    | ⟨2, _⟩ =>
      show (j 2).val = if C = 1 then 0 else (j 2).val
      split <;> omega
  · rw [rowMajor_val2 _ C rfl, rowMajor_val3 _ (1 * C) C rfl rfl]
    show (j 0).val * C + (j 2).val = (j 0).val * (1 * C) + 0 * C + (j 2).val
    ring

/-- The block and the place within it of row `r`. -/
def blk3 (hR : R = 32 * B) (i : (⟨2, ![R, C]⟩ : Shape).Idx) : (⟨3, ![B, 32, C]⟩ : Shape).Idx :=
  ix3 ⟨(i 0).val / 32, Nat.div_lt_of_lt_mul (hR ▸ (i 0).isLt)⟩ ⟨(i 0).val % 32, Nat.mod_lt _ (by norm_num)⟩ (i 1)

theorem join_blk (hR : R = 32 * B) (x : (⟨3, ![B, 32, C]⟩ : Shape).Idx → α) (h : (⟨3, ![B, 32, C]⟩ : Shape).ShapeCasts ⟨2, ![R, C]⟩) (i : (⟨2, ![R, C]⟩ : Shape).Idx) :
    shapeCast ⟨2, ![R, C]⟩ x h i = x (blk3 hR i) :=
  join_apply x h i _ (Nat.div_add_mod _ _).symm rfl

theorem split_blk (hR : R = 32 * B) (x : (⟨2, ![R, C]⟩ : Shape).Idx → α) (h : (⟨2, ![R, C]⟩ : Shape).ShapeCasts ⟨3, ![B, 32, C]⟩) (i : (⟨2, ![R, C]⟩ : Shape).Idx) :
    shapeCast ⟨3, ![B, 32, C]⟩ x h (blk3 hR i) = x i :=
  split_apply x h _ i (Nat.div_add_mod _ _).symm rfl

theorem same_apply (x : (⟨2, ![R, C]⟩ : Shape).Idx → α) (h : (⟨2, ![R, C]⟩ : Shape).ShapeCasts ⟨2, ![R, C]⟩) : shapeCast ⟨2, ![R, C]⟩ x h = x := by
  funext i; exact shapeCast_apply x h i i rfl
end

/-- The greatest entry over the middle axis. -/
theorem reduceMid {B N C : ℕ} (src : FVec Ideal ⟨3, ![B, N, C]⟩ .f32) (h : (⟨3, ![B, N, C]⟩ : Shape).Reduces [1] ⟨2, ![B, C]⟩) (hφ : FKind.Formats .f32)
    (hacc : (0xFF800000#32 : BitVec (FTy.bits .f32)) = FKind.maximumf.neutral .f32 hφ) (i : (⟨2, ![B, C]⟩ : Shape).Idx) :
    multiReduction .maximumf [1] ⟨2, ![B, C]⟩ src 0xFF800000#32 h hφ hacc i
      = (Finset.univ : Finset (Fin N)).sup fun k => (src (ix3 (i 0) k (i 1)) : EReal) := by
  refine (Ideal.multiReduction_maximumf_single src _ h hφ hacc i).trans ?_
  have hl : ∀ k : Fin N, h.lift i k = ix3 (i 0) k (i 1) := by
    intro k; funext a
    match a with
    | ⟨0, _⟩ => rfl
    | ⟨1, _⟩ => rfl
    | ⟨2, _⟩ => rfl
  have hf : (src ∘ h.lift i : Fin N → EReal) = fun k => (src (ix3 (i 0) k (i 1)) : EReal) := funext fun k => congrArg src (hl k)
  refine (congrArg (fun f : Fin N → EReal => (Finset.univ : Finset (Fin N)).fold max (Ideal.ofBits .f32 0xFF800000#32) f) hf).trans ?_
  rw [ofBits_ninf]; rfl

/-! ## The kernel's tiles -/

section
variable [Cert.KernelIdeal.Facts]
open Cert.KernelIdeal Facts₀ Facts

/-- A column of a matrix. -/
abbrev col {R C : ℕ} (X : (⟨2, ![R, C]⟩ : Shape).Idx → EReal) (c : ℕ) : ℕ → EReal := fun r => rd X r c

theorem tmax_apply (v : FVec Ideal S512x128 .bf16) (i : S16x128.Idx) : tmax v i = amaxN (col v (i 1).val) (i 0).val := by
  have hi0 : (i 0).val < 16 := (i 0).isLt
  have half : ∀ (h : ℕ) (hh : h < 2) (hs : S16x2x16x128.Slices ![0, h, 0, 0] S16x1x16x128) (k : Fin 16),
      shapeCast S16x16x128 (extractStridedSlice S16x1x16x128 ![0, h, 0, 0]
        (shapeCast S16x2x16x128 (absf v) shapeCasts_S512x128_S16x2x16x128) hs) shapeCasts_S16x1x16x128_S16x16x128 (ix3 (i 0) k (i 1))
      = max (col v (i 1).val (32 * (i 0).val + (16 * h + k.val))) (-(col v (i 1).val (32 * (i 0).val + (16 * h + k.val)))) := by
    intro h hh hs k
    refine (shapeCast_apply _ _ _ (ix4 (i 0) ⟨0, by norm_num⟩ k (i 1)) ?_).trans ?_
    · rw [rowMajor_val4 _ 2048 2048 128 rfl rfl rfl, rowMajor_val3 _ 2048 128 rfl rfl]
      show (i 0).val * 2048 + 0 * 2048 + k.val * 128 + (i 1).val = (i 0).val * 2048 + k.val * 128 + (i 1).val
      ring
    refine (extractStridedSlice_apply _ _ hs _ (ix4 (i 0) ⟨h, hh⟩ k (i 1)) ?_).trans ?_
    · intro a
      match a with
      | ⟨0, _⟩ => exact (Nat.zero_add _).symm
      | ⟨1, _⟩ => rfl
      | ⟨2, _⟩ => exact (Nat.zero_add _).symm
      | ⟨3, _⟩ => exact (Nat.zero_add _).symm
    have hrow : 32 * (i 0).val + (16 * h + k.val) < 512 := by have := k.isLt; omega
    refine (shapeCast_apply _ _ _ (ix2 ⟨32 * (i 0).val + (16 * h + k.val), hrow⟩ (i 1)) ?_).trans ?_
    · rw [rowMajor_val4 _ 4096 2048 128 rfl rfl rfl, rowMajor_val2 _ 128 rfl]
      show (32 * (i 0).val + (16 * h + k.val)) * 128 + (i 1).val = (i 0).val * 4096 + h * 2048 + k.val * 128 + (i 1).val
      ring
    · exact congrArg (fun z : EReal => max z (-z)) (rd_of v (ix2 ⟨32 * (i 0).val + (16 * h + k.val), hrow⟩ (i 1)) rfl rfl).symm
  refine (reduceMid (B := 16) (N := 16) (C := 128) _ reduces_S16x16x128_S16x128 (.inl rfl) rfl i).trans ?_
  rw [amaxN_sup]
  have two : ∀ k : Fin 16, (extf .f32 (maximumf
      (shapeCast S16x16x128 (extractStridedSlice S16x1x16x128 ![0, 0, 0, 0]
        (shapeCast S16x2x16x128 (absf v) shapeCasts_S512x128_S16x2x16x128) slices_S16x2x16x128_o0_0_0_0_S16x1x16x128) shapeCasts_S16x1x16x128_S16x16x128)
      (shapeCast S16x16x128 (extractStridedSlice S16x1x16x128 ![0, 1, 0, 0]
        (shapeCast S16x2x16x128 (absf v) shapeCasts_S512x128_S16x2x16x128) slices_S16x2x16x128_o0_1_0_0_S16x1x16x128) shapeCasts_S16x1x16x128_S16x16x128))
      bitsLt_bf16_f32 : FVec Ideal S16x16x128 .f32) (ix3 (i 0) k (i 1))
      = max (max (col v (i 1).val (32 * (i 0).val + (16 * 0 + k.val))) (-(col v (i 1).val (32 * (i 0).val + (16 * 0 + k.val)))))
          (max (col v (i 1).val (32 * (i 0).val + (16 * 1 + k.val))) (-(col v (i 1).val (32 * (i 0).val + (16 * 1 + k.val))))) :=
    fun k => congrArg₂ max (half 0 (by norm_num) _ k) (half 1 (by norm_num) _ k)
  refine (congrArg (fun f : Fin 16 → EReal => (Finset.univ : Finset (Fin 16)).sup f) (funext two)).trans ?_
  generalize col v (i 1).val = y
  generalize (i 0).val = b
  apply le_antisymm
  · refine Finset.sup_le fun k _ => ?_
    have hk : k.val < 16 := k.isLt
    exact max_le (Finset.le_sup (f := fun k : Fin 32 => max (y (32 * b + k.val)) (-(y (32 * b + k.val)))) (Finset.mem_univ (⟨16 * 0 + k.val, by omega⟩ : Fin 32)))
      (Finset.le_sup (f := fun k : Fin 32 => max (y (32 * b + k.val)) (-(y (32 * b + k.val)))) (Finset.mem_univ (⟨16 * 1 + k.val, by omega⟩ : Fin 32)))
  · refine Finset.sup_le fun k _ => ?_
    have hk : k.val < 32 := k.isLt
    rcases Nat.lt_or_ge k.val 16 with h | h
    · refine le_trans ?_ (Finset.le_sup (Finset.mem_univ (⟨k.val, h⟩ : Fin 16)))
      refine le_trans (le_of_eq ?_) (le_max_left _ _)
      simp only [Nat.mul_zero, Nat.zero_add]
    · refine le_trans ?_ (Finset.le_sup (Finset.mem_univ (⟨k.val - 16, by omega⟩ : Fin 16)))
      refine le_trans (le_of_eq ?_) (le_max_right _ _)
      simp only [show 16 * 1 + (k.val - 16) = k.val by omega]

theorem bitStep_apply (q : FVec Ideal S16x128 .f32) (b : BitVec 32) (e : IVec S16x128 32) (i : S16x128.Idx) : bitStep q b e i = stepS (q i) b (e i) := rfl

theorem expBits_apply (q : FVec Ideal S16x128 .f32) (i : S16x128.Idx) : expBits q i = expS (q i) := by
  unfold expBits expS
  simp only [bitStep_apply]
  rfl

theorem scales_apply (c : BitVec 32) (v : FVec Ideal S512x128 .bf16) (i : S16x128.Idx) : scales c v i = sK c (col v (i 1).val) (i 0).val := by
  have e : ∀ q : FVec Ideal S16x128 .f32, scaleOf (F := Ideal) (expBits q) i = scaleS (expS (q i)) := fun q => by
    rw [← expBits_apply]; rfl
  refine (e (qOf c v)).trans ?_
  have e' : qOf c v i = tmax v i * Ideal.ofBits .f32 c := rfl
  rw [e', tmax_apply]; rfl

theorem inv_apply (c : BitVec 32) (v : FVec Ideal S512x128 .bf16) (i : S16x128.Idx) : invOf (F := Ideal) (expBits (qOf c v)) i = iK c (col v (i 1).val) (i 0).val := by
  have e : ∀ q : FVec Ideal S16x128 .f32, invOf (F := Ideal) (expBits q) i = invS (expS (q i)) := fun q => by
    rw [← expBits_apply]; rfl
  refine (e (qOf c v)).trans ?_
  have e' : qOf c v i = tmax v i * Ideal.ofBits .f32 c := rfl
  rw [e', tmax_apply]; rfl

theorem codes3_apply (f : FTy) (hf : FTy.bits f < FTy.bits .bf16) (c : BitVec 32) (lo hi : BitVec 16) (v : FVec Ideal S512x128 .bf16) (i : S512x128.Idx) :
    codes3 f hf c lo hi v (blk3 (R := 512) (B := 16) rfl i)
      = codeN (Ideal.ofBits .bf16 lo) (Ideal.ofBits .bf16 hi) (iK c (col v (i 1).val)) (col v (i 1).val) (i 0).val := by
  have e : codes3 f hf c lo hi v (blk3 (R := 512) (B := 16) rfl i)
      = min (Ideal.ofBits .bf16 hi) (max (Ideal.ofBits .bf16 lo)
        (shapeCast S16x32x128 v shapeCasts_S512x128_S16x32x128 (blk3 (R := 512) (B := 16) rfl i) * spread (F := Ideal) (invOf (F := Ideal) (expBits (qOf c v))) (blk3 (R := 512) (B := 16) rfl i))) := rfl
  rw [e, split_blk (R := 512) (B := 16) (C := 128) rfl]
  unfold spread
  rw [spread_apply (B := 16) (C := 128)]
  show min _ (max _ (v i * invOf (F := Ideal) (expBits (qOf c v)) _)) = _
  rw [inv_apply, ← rd_of v i rfl rfl]
  rfl

theorem codes_apply (f : FTy) (hf : FTy.bits f < FTy.bits .bf16) (c : BitVec 32) (lo hi : BitVec 16) (v : FVec Ideal S512x128 .bf16) (i : S512x128.Idx) :
    codes f hf c lo hi v i = codeN (Ideal.ofBits .bf16 lo) (Ideal.ofBits .bf16 hi) (iK c (col v (i 1).val)) (col v (i 1).val) (i 0).val := by
  unfold codes
  rw [join_blk (R := 512) (B := 16) (C := 128) rfl, codes3_apply]

theorem hats_apply (f : FTy) (hf : FTy.bits f < FTy.bits .bf16) (c : BitVec 32) (lo hi : BitVec 16) (v : FVec Ideal S512x128 .bf16) (i : S512x128.Idx) :
    hats f hf c lo hi v i = hatN (Ideal.ofBits .bf16 lo) (Ideal.ofBits .bf16 hi) (iK c (col v (i 1).val)) (sK c (col v (i 1).val)) (col v (i 1).val) (i 0).val := by
  unfold hats
  rw [join_blk (R := 512) (B := 16) (C := 128) rfl]
  show codes3 f hf c lo hi v (blk3 rfl i) * spread (scales c v) (blk3 rfl i) = _
  rw [codes3_apply]
  unfold spread
  rw [spread_apply (B := 16) (C := 128)]
  show _ * scales c v _ = _
  rw [scales_apply]
  rfl

end

end Cert.KernelIdeal.Hand

end
-- ==== Proof.KernelValue.lean ====
module

public import proofs.«01_k».proof.Proof.Quant
public import proofs.«01_k».proof.Proof.Launch
public import Idealize.ShloMosaic.Lib.Pipeline.ValueKit
public import Idealize.ShloMosaic.Lib.Pointwise.Contract
public import Idealize.ShloMosaic.Lib.MatmulPlain

/-!
# The kernel's results

Each result of the kernel, entry by entry, as a function of the columns of its two operands.
-/

@[expose] public section

set_option maxRecDepth 16384

noncomputable section

namespace Cert.KernelIdeal.Hand

open Cert.KernelIdeal
open Cert.KernelIdeal.Gen (V iblk)
open Idealize.ShloMosaic Idealize.ShloMosaic.TcCoe Idealize.SL.Sem
open Facts₀ Facts

/-! ## A chunk's columns inside the whole array's -/

section
variable {y y' : ℕ → EReal} {k : ℕ} (h : ∀ r, r < 512 → y r = y' (512 * k + r))
include h

theorem amaxN_shift {b : ℕ} (hb : b < 16) : amaxN y b = amaxN y' (16 * k + b) :=
  amaxN_congr fun j hj => (h _ (by omega)).trans (congrArg y' (by omega))

theorem sK_shift (cb : BitVec 32) {b : ℕ} (hb : b < 16) : sK cb y b = sK cb y' (16 * k + b) := by
  unfold sK; rw [amaxN_shift h hb]

theorem iK_shift (cb : BitVec 32) {b : ℕ} (hb : b < 16) : iK cb y b = iK cb y' (16 * k + b) := by
  unfold iK; rw [amaxN_shift h hb]

theorem codeN_shift (lo hi : EReal) (cb : BitVec 32) {r : ℕ} (hr : r < 512) :
    codeN lo hi (iK cb y) y r = codeN lo hi (iK cb y') y' (512 * k + r) := by
  unfold codeN
  rw [h r hr, iK_shift h cb (show r / 32 < 16 by omega), show (512 * k + r) / 32 = 16 * k + r / 32 by omega]

theorem hatN_shift (lo hi : EReal) (cb : BitVec 32) {r : ℕ} (hr : r < 512) :
    hatN lo hi (iK cb y) (sK cb y) y r = hatN lo hi (iK cb y') (sK cb y') y' (512 * k + r) := by
  unfold hatN
  rw [codeN_shift h lo hi cb hr, sK_shift h cb (show r / 32 < 16 by omega), show (512 * k + r) / 32 = 16 * k + r / 32 by omega]
end

/-- A column of a tile is a column of the chunk. -/
theorem rd_tile {R C T o : ℕ} (Y : (⟨2, ![R, C]⟩ : Shape).Idx → EReal)
    (inb : ∀ a, (![0, o] : Fin 2 → ℕ) a + (⟨2, ![R, T]⟩ : Shape).size a ≤ (⟨2, ![R, C]⟩ : Shape).size a) {r q : ℕ} (hr : r < R) (hq : q < T) :
    rd (R := R) (C := T) (fun k => Y ((Rect.unit (s := ⟨2, ![R, C]⟩) ![0, o] (⟨2, ![R, T]⟩ : Shape).size inb).emb k)) r q = rd Y r (o + q) := by
  unfold rd
  rw [dif_pos ⟨hr, hq⟩]
  refine (rd_of Y _ ?_ ?_).symm
  · exact (emb_unit_val _ _ inb _ 0).trans (Nat.zero_add _)
  · exact emb_unit_val _ _ inb _ 1

/-! ## The scales, codes and dequantised values of a chunk -/

variable [Facts]

section
variable {R C k Q : ℕ} (A : (⟨2, ![R, C]⟩ : Shape).Idx → EReal)

section
variable (Y : FVec Ideal S512x4608 .bf16) (h : ∀ r q, r < 512 → q < 4608 → rd Y r q = rd A (512 * k + r) (Q + q))
include h

theorem dy_col (j : ℕ) (hj : j < 36) (q : ℕ) (hq : q < 128) (r : ℕ) (hr : r < 512) :
    col (R := 512) (C := 128) (fun i => Y ((rDy j hj).emb i)) q r = col A (Q + (128 * j + q)) (512 * k + r) :=
  (rd_tile (R := 512) (C := 4608) (T := 128) Y (inbDy hj) hr hq).trans (h _ _ hr (by omega))

theorem dyS_apply (i : S16x4608.Idx) : dyS Y i = sK 0x37924925#32 (col A (Q + (i 1).val)) (16 * k + (i 0).val) := by
  have h0 : (i 0).val < 16 := (i 0).isLt
  have h1 : (i 1).val < 4608 := (i 1).isLt
  have e : dyS Y i = dyScales (fun x => Y ((rDy ((i 1).val / 128) (by omega)).emb x)) (ix2 (i 0) ⟨(i 1).val % 128, by omega⟩) := rfl
  rw [e]; unfold dyScales
  rw [show same _ = _ from same_apply (R := 512) (C := 128) _ _, scales_apply]
  refine (sK_shift (dy_col A Y h ((i 1).val / 128) (by omega) ((i 1).val % 128) (by omega)) _ h0).trans ?_
  rw [Nat.div_add_mod]

theorem dyC_apply (i : S512x4608.Idx) : dyC Y i
    = codeN (Ideal.ofBits .bf16 0xC760#16) (Ideal.ofBits .bf16 0x4760#16) (iK 0x37924925#32 (col A (Q + (i 1).val))) (col A (Q + (i 1).val)) (512 * k + (i 0).val) := by
  have h0 : (i 0).val < 512 := (i 0).isLt
  have h1 : (i 1).val < 4608 := (i 1).isLt
  have e : dyC Y i = dyCodes (fun x => Y ((rDy ((i 1).val / 128) (by omega)).emb x)) (ix2 (i 0) ⟨(i 1).val % 128, by omega⟩) := rfl
  rw [e]; unfold dyCodes
  rw [show same _ = _ from same_apply (R := 512) (C := 128) _ _, codes_apply]
  refine (codeN_shift (dy_col A Y h ((i 1).val / 128) (by omega) ((i 1).val % 128) (by omega)) _ _ _ h0).trans ?_
  rw [Nat.div_add_mod]

theorem dyH_apply (i : S512x4608.Idx) : dyH Y i
    = hatN (Ideal.ofBits .bf16 0xC760#16) (Ideal.ofBits .bf16 0x4760#16) (iK 0x37924925#32 (col A (Q + (i 1).val))) (sK 0x37924925#32 (col A (Q + (i 1).val))) (col A (Q + (i 1).val)) (512 * k + (i 0).val) := by
  have h0 : (i 0).val < 512 := (i 0).isLt
  have h1 : (i 1).val < 4608 := (i 1).isLt
  have e : dyH Y i = dyHats (fun x => Y ((rDy ((i 1).val / 128) (by omega)).emb x)) (ix2 (i 0) ⟨(i 1).val % 128, by omega⟩) := rfl
  rw [e]; unfold dyHats
  rw [show same (hats _ _ _ _ _ _) = _ from same_apply (R := 512) (C := 128) _ _, show same _ = _ from same_apply (R := 512) (C := 128) _ _, hats_apply]
  refine (hatN_shift (dy_col A Y h ((i 1).val / 128) (by omega) ((i 1).val % 128) (by omega)) _ _ _ h0).trans ?_
  rw [Nat.div_add_mod]
end

section
variable (X : FVec Ideal S512x1024 .bf16) (h : ∀ r q, r < 512 → q < 1024 → rd X r q = rd A (512 * k + r) (Q + q))
include h

theorem x_col (j : ℕ) (hj : j < 8) (q : ℕ) (hq : q < 128) (r : ℕ) (hr : r < 512) :
    col (R := 512) (C := 128) (fun i => X ((rX j hj).emb i)) q r = col A (Q + (128 * j + q)) (512 * k + r) :=
  (rd_tile (R := 512) (C := 1024) (T := 128) X (inbX hj) hr hq).trans (h _ _ hr (by omega))

theorem xS_apply (i : S16x1024.Idx) : xS X i = sK 0x3B124925#32 (col A (Q + (i 1).val)) (16 * k + (i 0).val) := by
  have h0 : (i 0).val < 16 := (i 0).isLt
  have h1 : (i 1).val < 1024 := (i 1).isLt
  have e : xS X i = xScales (fun x => X ((rX ((i 1).val / 128) (by omega)).emb x)) (ix2 (i 0) ⟨(i 1).val % 128, by omega⟩) := rfl
  rw [e]; unfold xScales
  rw [show same _ = _ from same_apply (R := 512) (C := 128) _ _, scales_apply]
  refine (sK_shift (x_col A X h ((i 1).val / 128) (by omega) ((i 1).val % 128) (by omega)) _ h0).trans ?_
  rw [Nat.div_add_mod]

theorem xC_apply (i : S512x1024.Idx) : xC X i
    = codeN (Ideal.ofBits .bf16 0xC3E0#16) (Ideal.ofBits .bf16 0x43E0#16) (iK 0x3B124925#32 (col A (Q + (i 1).val))) (col A (Q + (i 1).val)) (512 * k + (i 0).val) := by
  have h0 : (i 0).val < 512 := (i 0).isLt
  have h1 : (i 1).val < 1024 := (i 1).isLt
  have e : xC X i = xCodes (fun x => X ((rX ((i 1).val / 128) (by omega)).emb x)) (ix2 (i 0) ⟨(i 1).val % 128, by omega⟩) := rfl
  rw [e]; unfold xCodes
  rw [show same _ = _ from same_apply (R := 512) (C := 128) _ _, codes_apply]
  refine (codeN_shift (x_col A X h ((i 1).val / 128) (by omega) ((i 1).val % 128) (by omega)) _ _ _ h0).trans ?_
  rw [Nat.div_add_mod]

/-- The prepared x operand is transposed: its row is a column of x. -/
theorem xH_apply (i : S1024x512.Idx) : xH X i
    = hatN (Ideal.ofBits .bf16 0xC3E0#16) (Ideal.ofBits .bf16 0x43E0#16) (iK 0x3B124925#32 (col A (Q + (i 0).val))) (sK 0x3B124925#32 (col A (Q + (i 0).val))) (col A (Q + (i 0).val)) (512 * k + (i 1).val) := by
  have h0 : (i 0).val < 1024 := (i 0).isLt
  have h1 : (i 1).val < 512 := (i 1).isLt
  have e : xH X i = xHats (fun x => X ((rX ((i 0).val / 128) (by omega)).emb x)) (ix2 ⟨(i 0).val % 128, by omega⟩ (i 1)) := rfl
  rw [e]; unfold xHats
  rw [show shapeCast S128x512 _ _ = _ from same_apply (R := 128) (C := 512) _ _, show same _ = _ from same_apply (R := 512) (C := 128) _ _]
  refine (transpose_apply _ _ _ _ (ix2 (i 1) ⟨(i 0).val % 128, by omega⟩) ?_).trans ?_
  · intro b
    match b with
    | ⟨0, _⟩ => rfl
    | ⟨1, _⟩ => rfl
  refine (hats_apply _ _ _ _ _ _ _).trans ?_
  refine (hatN_shift (x_col A X h ((i 0).val / 128) (by omega) ((i 0).val % 128) (by omega)) _ _ _ h1).trans ?_
  rw [Nat.div_add_mod]
end
end

/-! ## The accumulator -/

theorem accN_apply (z : BitVec 1) (a : FVec Ideal S1024x512 .bf16) (b : FVec Ideal S512x4608 .bf16) (A : FVec Ideal S1024x4608 .f32) (i : S1024x4608.Idx) :
    accN z a b A i = Scalar.select z (∑ k : Fin 512, a (ix2 (i 0) k) * b (ix2 k (i 1))) (A i + ∑ k : Fin 512, a (ix2 (i 0) k) * b (ix2 k (i 1)) : EReal) := by
  have h0 : (i 0).val < 1024 := (i 0).isLt
  have h1 : (i 1).val < 4608 := (i 1).isLt
  have hj : (i 1).val / 512 < 9 := by omega
  set j := (i 1).val / 512 with hjd
  have e : accN z a b A i = accVal z (mmVal (fun k => a (rXTall.emb k)) (fun k => b ((rMm j hj).emb k))) (fun k => A ((rAcc j hj).emb k)) (ix2 (i 0) ⟨(i 1).val % 512, by omega⟩) := rfl
  have ea : (fun k : S1024x512.Idx => a (rXTall.emb k)) = a := by
    funext k; refine congrArg a (funext fun x => Fin.ext ?_)
    match x with
    | ⟨0, _⟩ => exact (emb_unit_val (s := S1024x512) ![0, 0] S1024x512.size inb_S1024x512_S1024x512_0_0 k 0).trans (Nat.zero_add _)
    | ⟨1, _⟩ => exact (emb_unit_val (s := S1024x512) ![0, 0] S1024x512.size inb_S1024x512_S1024x512_0_0 k 1).trans (Nat.zero_add _)
  have eA : A ((rAcc j hj).emb (ix2 (i 0) ⟨(i 1).val % 512, by omega⟩)) = A i := by
    refine congrArg A (funext fun x => Fin.ext ?_)
    match x with
    | ⟨0, _⟩ => exact (emb_unit_val _ _ _ _ 0).trans (Nat.zero_add _)
    | ⟨1, _⟩ => exact (emb_unit_val _ _ _ _ 1).trans (Nat.div_add_mod _ _)
  have eb : ∀ k : Fin 512, b ((rMm j hj).emb (ix2 k ⟨(i 1).val % 512, by omega⟩)) = b (ix2 k (i 1)) := by
    intro k; refine congrArg b (funext fun x => Fin.ext ?_)
    match x with
    | ⟨0, _⟩ => exact (emb_unit_val _ _ _ _ 0).trans (Nat.zero_add _)
    | ⟨1, _⟩ => exact (emb_unit_val _ _ _ _ 1).trans (Nat.div_add_mod _ _)
  have em : mmVal (fun k => a (rXTall.emb k)) (fun k => b ((rMm j hj).emb k)) (ix2 (i 0) ⟨(i 1).val % 512, by omega⟩)
      = (∑ k : Fin 512, a (ix2 (i 0) k) * b (ix2 k (i 1)) : EReal) := by
    rw [ea]
    refine (Ideal.matmul_constant_zero_apply dot_S1024x512_S512x512_S1024x512_1_0_0_1_n_n none a (fun k => b ((rMm j hj).emb k)) _).trans ?_
    rw [DotDims.sum_contr₁ _ (a := 1) rfl (K := 512) rfl]
    refine Finset.sum_congr rfl fun k _ => ?_
    refine congrArg₂ (fun x y : EReal => x * y) ?_ ((congrArg (fun x => b ((rMm j hj).emb x)) ?_).trans (eb k))
    · refine congrArg a (funext fun x => ?_)
      match x with
      | ⟨0, _⟩ => rfl
      | ⟨1, _⟩ => rfl
    · funext x
      match x with
      | ⟨0, _⟩ => rfl
      | ⟨1, _⟩ => rfl
  rw [e]; unfold accVal
  rw [show shapeCast S1024x512 _ _ = _ from same_apply (R := 1024) (C := 512) _ _, ← em, ← eA]
  unfold Scalar.select
  split <;> rfl

end Cert.KernelIdeal.Hand

end
-- ==== Proof.KernelArrays.lean ====
module

public import proofs.«01_k».proof.Proof.KernelValue

/-!
# The kernel's five arrays

What the run leaves in each result array, as a function of the columns of the two operands.
-/

@[expose] public section

set_option maxRecDepth 16384

noncomputable section

namespace Cert.KernelIdeal.Hand

open Cert.KernelIdeal
open Cert.KernelIdeal.Gen (V iblk)
open Idealize.ShloMosaic Idealize.ShloMosaic.TcCoe Idealize.SL.Sem Idealize.ShloMosaic.Pipeline
open Facts₀ Facts

variable (m : (ℓ : Loc nD τ sig) → Buf (Elt Ideal) ℓ)

/-! ## The blocks of the two operands -/

theorem idx0 : ∀ t : Fin cfg0.N, win0_0.index t = ![min t.val 191 % 48, min t.val 191 / 48] := (by decide +kernel : ∀ t : Fin grid0.N, _)
theorem idx1 : ∀ t : Fin cfg0.N, win0_1.index t = ![min t.val 191 % 48, 0] := (by decide +kernel : ∀ t : Fin grid0.N, _)
theorem idx2 : ∀ t : Fin cfg0.N, win0_2.index t = ![min t.val 191 % 48, min t.val 191 / 48] := (by decide +kernel : ∀ t : Fin grid0.N, _)
theorem idx3 : ∀ t : Fin cfg0.N, win0_3.index t = ![min t.val 191 % 48, min t.val 191 / 48] := (by decide +kernel : ∀ t : Fin grid0.N, _)
theorem idx4 : ∀ t : Fin cfg0.N, win0_4.index t = ![min t.val 47, 0] := (by decide +kernel : ∀ t : Fin grid0.N, _)
theorem idx5 : ∀ t : Fin cfg0.N, win0_5.index t = ![min t.val 47, 0] := (by decide +kernel : ∀ t : Fin grid0.N, _)
/-- The blocks of dy's codes and scales are written back while their chunk is the one just prepared. -/
theorem flush4 : ∀ t : Fin cfg0.N, (cfg0.win 4).flush t = true → min t.val 191 % 48 = min t.val 47 := (by decide +kernel : ∀ t : Fin grid0.N, win0_4.flush t = true → _)
theorem flush5 : ∀ t : Fin cfg0.N, (cfg0.win 5).flush t = true → min t.val 191 % 48 = min t.val 47 := (by decide +kernel : ∀ t : Fin grid0.N, win0_5.flush t = true → _)

/-- x, its batches one after another. -/
abbrev X2 (c : Dev nD) : FVec Ideal S24576x4096 .bf16 := V m c main_v0
/-- dy, its batches one after another. -/
abbrev Y2 (c : Dev nD) : FVec Ideal S24576x4608 .bf16 := V m c main_v1

theorem xBlk_rd (c : Dev nD) (t : Fin cfg0.N) (r q : ℕ) (hr : r < 512) (hq : q < 1024) :
    rd (R := 512) (C := 1024) (xBlk m c t) r q = rd (R := 24576) (C := 4096) (X2 m c) (512 * (min t.val 191 % 48) + r) (1024 * (min t.val 191 / 48) + q) := by
  refine (rd_of (R := 512) (C := 1024) (xBlk m c t) (ix2 ⟨r, hr⟩ ⟨q, hq⟩) rfl rfl).trans ?_
  have e : xBlk m c t (ix2 ⟨r, hr⟩ ⟨q, hq⟩) = X2 m c (((cfg0.win 0).blk t).view.emb (ix2 ⟨r, hr⟩ ⟨q, hq⟩)) := rfl
  rw [e]
  refine (rd_of (R := 24576) (C := 4096) (X2 m c) _ ?_ ?_).symm
  · blk_simp [idx0]; simp; omega
  · blk_simp [idx0]; simp; omega

theorem yBlk_rd (c : Dev nD) (t : Fin cfg0.N) (r q : ℕ) (hr : r < 512) (hq : q < 4608) :
    rd (R := 512) (C := 4608) (yBlk m c t) r q = rd (R := 24576) (C := 4608) (Y2 m c) (512 * (min t.val 191 % 48) + r) (0 + q) := by
  refine (rd_of (R := 512) (C := 4608) (yBlk m c t) (ix2 ⟨r, hr⟩ ⟨q, hq⟩) rfl rfl).trans ?_
  have e : yBlk m c t (ix2 ⟨r, hr⟩ ⟨q, hq⟩) = Y2 m c (((cfg0.win 1).blk t).view.emb (ix2 ⟨r, hr⟩ ⟨q, hq⟩)) := rfl
  rw [e]
  refine (rd_of (R := 24576) (C := 4608) (Y2 m c) _ ?_ ?_).symm
  · blk_simp [idx1]; simp; omega
  · blk_simp [idx1]

/-! ## The four arrays of codes and scales -/

/-- The kernel's codes of x. -/
def xCK (A : FVec Ideal S24576x4096 .bf16) : FVec Ideal S24576x4096 .fp8e4m3 := fun i =>
  codeN (Ideal.ofBits .bf16 0xC3E0#16) (Ideal.ofBits .bf16 0x43E0#16) (iK 0x3B124925#32 (col (R := 24576) (C := 4096) A (i 1).val)) (col (R := 24576) (C := 4096) A (i 1).val) (i 0).val
/-- The kernel's scales of x. -/
def xSK (A : FVec Ideal S24576x4096 .bf16) : FVec Ideal S768x4096 .f32 := fun i => sK 0x3B124925#32 (col (R := 24576) (C := 4096) A (i 1).val) (i 0).val
/-- The kernel's codes of dy. -/
def dyCK (A : FVec Ideal S24576x4608 .bf16) : FVec Ideal S24576x4608 .fp8e5m2 := fun i =>
  codeN (Ideal.ofBits .bf16 0xC760#16) (Ideal.ofBits .bf16 0x4760#16) (iK 0x37924925#32 (col (R := 24576) (C := 4608) A (i 1).val)) (col (R := 24576) (C := 4608) A (i 1).val) (i 0).val
/-- The kernel's scales of dy. -/
def dySK (A : FVec Ideal S24576x4608 .bf16) : FVec Ideal S768x4608 .f32 := fun i => sK 0x37924925#32 (col (R := 24576) (C := 4608) A (i 1).val) (i 0).val

theorem cov2 : (cfg0.win 2).Covers := by decide +kernel
theorem cov3 : (cfg0.win 3).Covers := by decide +kernel
theorem cov4 : (cfg0.win 4).Covers := by decide +kernel
theorem cov5 : (cfg0.win 5).Covers := by decide +kernel

theorem emb2 (t : Fin cfg0.N) (y : S512x1024.Idx) :
    (((cfg0.win 2).blk t).view.emb y 0).val = 512 * (min t.val 191 % 48) + (y 0).val ∧ (((cfg0.win 2).blk t).view.emb y 1).val = 1024 * (min t.val 191 / 48) + (y 1).val := by
  skip
  constructor
  · blk_simp [idx2]; simp; omega
  · blk_simp [idx2]; simp; omega

theorem arr2 (c : Dev nD) : (dats m 0 c).arrAt 2 cfg0.N = xCK (X2 m c) := by
  refine (dats m 0 c).arrAt_eq_of_covers 2 _ cov2 fun t hf y => ?_
  have h : ∀ y : S512x1024.Idx, xC (xBlk m c t) y = xCK (X2 m c) (((cfg0.win 2).blk t).view.emb y) := by
    intro y
    obtain ⟨e0, e1⟩ := emb2 t y
    refine (xC_apply (R := 24576) (C := 4096) (X2 m c) (xBlk m c t) (xBlk_rd m c t) y).trans ?_
    unfold xCK
    rw [e0, e1]
  refine Eq.trans ?_ (h y)
  blk_simp
  rw [after0_2]

theorem emb3 (t : Fin cfg0.N) (y : S16x1024.Idx) :
    (((cfg0.win 3).blk t).view.emb y 0).val = 16 * (min t.val 191 % 48) + (y 0).val ∧ (((cfg0.win 3).blk t).view.emb y 1).val = 1024 * (min t.val 191 / 48) + (y 1).val := by
  skip
  constructor
  · blk_simp [idx3]; simp; omega
  · blk_simp [idx3]; simp; omega

theorem arr3 (c : Dev nD) : (dats m 0 c).arrAt 3 cfg0.N = xSK (X2 m c) := by
  refine (dats m 0 c).arrAt_eq_of_covers 3 _ cov3 fun t hf y => ?_
  have h : ∀ y : S16x1024.Idx, xS (xBlk m c t) y = xSK (X2 m c) (((cfg0.win 3).blk t).view.emb y) := by
    intro y
    obtain ⟨e0, e1⟩ := emb3 t y
    refine (xS_apply (R := 24576) (C := 4096) (X2 m c) (xBlk m c t) (xBlk_rd m c t) y).trans ?_
    unfold xSK
    rw [e0, e1]
  refine Eq.trans ?_ (h y)
  blk_simp
  rw [after0_3]

theorem emb4 (t : Fin cfg0.N) (hf : (cfg0.win 4).flush t = true) (y : S512x4608.Idx) :
    (((cfg0.win 4).blk t).view.emb y 0).val = 512 * (min t.val 191 % 48) + (y 0).val ∧ (((cfg0.win 4).blk t).view.emb y 1).val = 0 + (y 1).val := by
  have hk := flush4 t hf
  constructor
  · rw [hk]; blk_simp [idx4]; simp; omega
  · blk_simp [idx4]

theorem arr4 (c : Dev nD) : (dats m 0 c).arrAt 4 cfg0.N = dyCK (Y2 m c) := by
  refine (dats m 0 c).arrAt_eq_of_covers 4 _ cov4 fun t hf y => ?_
  have h : ∀ y : S512x4608.Idx, dyC (yBlk m c t) y = dyCK (Y2 m c) (((cfg0.win 4).blk t).view.emb y) := by
    intro y
    obtain ⟨e0, e1⟩ := emb4 t hf y
    refine (dyC_apply (R := 24576) (C := 4608) (Y2 m c) (yBlk m c t) (yBlk_rd m c t) y).trans ?_
    unfold dyCK
    rw [e0, e1]
  refine Eq.trans ?_ (h y)
  blk_simp
  rw [after0_4]

theorem emb5 (t : Fin cfg0.N) (hf : (cfg0.win 5).flush t = true) (y : S16x4608.Idx) :
    (((cfg0.win 5).blk t).view.emb y 0).val = 16 * (min t.val 191 % 48) + (y 0).val ∧ (((cfg0.win 5).blk t).view.emb y 1).val = 0 + (y 1).val := by
  have hk := flush5 t hf
  constructor
  · rw [hk]; blk_simp [idx5]; simp; omega
  · blk_simp [idx5]

theorem arr5 (c : Dev nD) : (dats m 0 c).arrAt 5 cfg0.N = dySK (Y2 m c) := by
  refine (dats m 0 c).arrAt_eq_of_covers 5 _ cov5 fun t hf y => ?_
  have h : ∀ y : S16x4608.Idx, dyS (yBlk m c t) y = dySK (Y2 m c) (((cfg0.win 5).blk t).view.emb y) := by
    intro y
    obtain ⟨e0, e1⟩ := emb5 t hf y
    refine (dyS_apply (R := 24576) (C := 4608) (Y2 m c) (yBlk m c t) (yBlk_rd m c t) y).trans ?_
    unfold dySK
    rw [e0, e1]
  refine Eq.trans ?_ (h y)
  blk_simp
  rw [after0_5]

/-! ## The product -/

/-- The kernel's dequantised x, row `r` of column `y`. -/
def xhK (y : ℕ → EReal) (r : ℕ) : EReal :=
  hatN (Ideal.ofBits .bf16 0xC3E0#16) (Ideal.ofBits .bf16 0x43E0#16) (iK 0x3B124925#32 y) (sK 0x3B124925#32 y) y r
/-- The kernel's dequantised dy, row `r` of column `y`. -/
def dyhK (y : ℕ → EReal) (r : ℕ) : EReal :=
  hatN (Ideal.ofBits .bf16 0xC760#16) (Ideal.ofBits .bf16 0x4760#16) (iK 0x37924925#32 y) (sK 0x37924925#32 y) y r

/-- Row `r`'s term of the product's entry for column `q` of x and column `n` of dy. -/
def term (A : FVec Ideal S24576x4096 .bf16) (B : FVec Ideal S24576x4608 .bf16) (q n r : ℕ) : EReal :=
  xhK (col (R := 24576) (C := 4096) A q) r * dyhK (col (R := 24576) (C := 4608) B n) r

/-- What one chunk adds. -/
theorem chunk_apply (c : Dev nD) (n : ℕ) (hn : n < 192) (i : S1024x4608.Idx) :
    (∑ k : Fin 512, xHat m c n (ix2 (i 0) k) * yHat m c n (ix2 k (i 1)) : EReal)
      = ∑ k ∈ Finset.range 512, term (X2 m c) (Y2 m c) (1024 * (n / 48) + (i 0).val) (i 1).val (512 * (n % 48) + k) := by
  rw [← Fin.sum_univ_eq_sum_range (fun k => term (X2 m c) (Y2 m c) (1024 * (n / 48) + (i 0).val) (i 1).val (512 * (n % 48) + k))]
  refine Finset.sum_congr rfl fun k _ => ?_
  have hp : (pt n).val = n := Nat.min_eq_left (by omega)
  have hm : min (pt n).val 191 = n := by rw [hp]; omega
  have ex := xH_apply (R := 24576) (C := 4096) (X2 m c) (xBlk m c (pt n)) (xBlk_rd m c (pt n)) (ix2 (i 0) k)
  have ey := dyH_apply (R := 24576) (C := 4608) (Y2 m c) (yBlk m c (pt n)) (yBlk_rd m c (pt n)) (ix2 k (i 1))
  rw [hm] at ex ey
  rw [Nat.zero_add] at ey
  exact congrArg₂ (fun a b : EReal => a * b) ex ey

/-- The accumulator after chunk `j` of pass `p`. -/
theorem accS_apply (c : Dev nD) (p : ℕ) (hp : p < 4) (i : S1024x4608.Idx) : ∀ j, j < 48 → accS m c (48 * p + j + 1) i
    = (∑ r ∈ Finset.range (512 * (j + 1)), term (X2 m c) (Y2 m c) (1024 * p + (i 0).val) (i 1).val r : EReal) := by
  have step : ∀ j, j < 48 → accS m c (48 * p + j + 1) i = Scalar.select (if j = 0 then 1#1 else 0#1)
      (∑ k ∈ Finset.range 512, term (X2 m c) (Y2 m c) (1024 * p + (i 0).val) (i 1).val (512 * j + k))
      (accS m c (48 * p + j) i + ∑ k ∈ Finset.range 512, term (X2 m c) (Y2 m c) (1024 * p + (i 0).val) (i 1).val (512 * j + k) : EReal) := by
    intro j hj
    refine (accN_apply (firstChunk (grid0.coords (pt (48 * p + j + 1)))) (xHat m c (48 * p + j)) (yHat m c (48 * p + j)) (accS m c (48 * p + j)) i).trans ?_
    rw [chunk_apply m c _ (by omega), show (48 * p + j) / 48 = p by omega, show (48 * p + j) % 48 = j by omega, first_eq]
    have hpt : (pt (48 * p + j + 1)).val = 48 * p + j + 1 := Nat.min_eq_left (by omega)
    rw [hpt]
    congr 1
    by_cases h : j = 0 <;> simp [h] <;> omega
  intro j
  induction j with
  | zero =>
    intro hj
    refine (step 0 hj).trans ?_
    simp [Scalar.select]
  | succ j ih =>
    intro hj
    refine (step (j + 1) hj).trans ?_
    rw [show 48 * p + (j + 1) = 48 * p + j + 1 by omega, ih (by omega), show 512 * (j + 1 + 1) = 512 * (j + 1) + 512 by omega, Finset.sum_range_add]
    simp [Scalar.select]

/-- The kernel's product. -/
def dwK (A : FVec Ideal S24576x4096 .bf16) (B : FVec Ideal S24576x4608 .bf16) : FVec Ideal S4096x4608 .f32 := fun i =>
  (∑ r : Fin 24576, term A B (i 0).val (i 1).val r.val : EReal)

theorem dwFull_eq (c : Dev nD) : dwFull m c = dwK (X2 m c) (Y2 m c) := by
  funext i
  have h0 : (i 0).val < 4096 := (i 0).isLt
  have e : dwFull m c i = accS m c (48 * ((i 0).val / 1024 + 1)) (ix2 ⟨(i 0).val % 1024, by omega⟩ (i 1)) := rfl
  rw [e, show 48 * ((i 0).val / 1024 + 1) = 48 * ((i 0).val / 1024) + 47 + 1 by omega]
  refine (accS_apply m c _ (by omega) _ 47 (by omega)).trans ?_
  unfold dwK
  rw [Fin.sum_univ_eq_sum_range (fun r => term (X2 m c) (Y2 m c) (i 0).val (i 1).val r)]
  show ∑ r ∈ Finset.range 24576, term (X2 m c) (Y2 m c) (1024 * ((i 0).val / 1024) + (i 0).val % 1024) (i 1).val r = _
  rw [Nat.div_add_mod]

end Cert.KernelIdeal.Hand

end
-- ==== Proof.RefValue.lean ====
module

public import proofs.«01_k».proof.Proof.Quant
public import Idealize.ShloMosaic.Lib.Pipeline.ValueKit
public import Idealize.ShloMosaic.Lib.Pointwise.Contract

/-!
# The reference's results

Each result of the reference, entry by entry, as a function of the columns of its two operands: the
arrays `X` (24576 by 4096) and `Y` (24576 by 4608) that the arguments are reshaped to.
-/

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Cert.KernelIdeal.Hand (rd rd_of amaxN amaxN_sup sR iR expR scaleR invR codeN hatN blk3 join_blk split_blk split_apply spread_apply same_apply reduceMid col)

/-! ## The quantiser over a matrix of any width -/

section
variable {C : ℕ} (h23 : (⟨2, ![24576, C]⟩ : Shape).ShapeCasts ⟨3, ![768, 32, C]⟩) (h32 : (⟨3, ![768, 32, C]⟩ : Shape).ShapeCasts ⟨2, ![24576, C]⟩)
  (hr : (⟨3, ![768, 32, C]⟩ : Shape).Reduces [1] ⟨2, ![768, C]⟩) (h1 : (⟨2, ![768, C]⟩ : Shape).ShapeCasts ⟨3, ![768, 1, C]⟩)
  (hb : (⟨3, ![768, 1, C]⟩ : Shape).Broadcasts ⟨3, ![768, 32, C]⟩)
  (X : FVec Ideal ⟨2, ![24576, C]⟩ .bf16)

/-- The rows in blocks of 32. -/
def gRows : FVec Ideal ⟨3, ![768, 32, C]⟩ .f32 := shapeCast ⟨3, ![768, 32, C]⟩ (extf .f32 X bitsLt_bf16_f32) h23

/-- The greatest magnitude of each block. -/
def gMax : FVec Ideal ⟨2, ![768, C]⟩ .f32 := multiReduction .maximumf [1] ⟨2, ![768, C]⟩ (absf (gRows h23 X)) 0xFF800000#32 hr (.inl rfl) rfl

/-- The exponent of each block's scale. -/
def gExp (cb : BitVec 32) : FVec Ideal ⟨2, ![768, C]⟩ .f32 :=
  select (cmpf .oeq (gMax h23 hr X) (broadcast _ (Scalar.ofBits .f32 0x00000000#32))) (broadcast _ (Scalar.ofBits .f32 0x00000000#32))
    (addf (floor (divf (log (mulf (gMax h23 hr X) (broadcast _ (Scalar.ofBits .f32 cb)))) (broadcast _ (Named.named κ "ln2" 0x3F317218#32))))
      (broadcast _ (Scalar.ofBits .f32 0x3F800000#32)))

/-- The codes, blocks apart. -/
def gCodes (f : FTy) (hf : FTy.bits f < FTy.bits .f32) (cb lo hi : BitVec 32) : FVec Ideal ⟨3, ![768, 32, C]⟩ f :=
  truncf f (minimumf (broadcast _ (Scalar.ofBits .f32 hi)) (maximumf (broadcast _ (Scalar.ofBits .f32 lo))
    (mulf (gRows h23 X) (broadcastTo ⟨3, ![768, 32, C]⟩ (shapeCast ⟨3, ![768, 1, C]⟩
      (exp2 (subf (broadcast _ (Scalar.ofBits .f32 0x00000000#32)) (gExp h23 hr X cb))) h1) hb)))) hf

/-- The dequantised values. -/
def gHats (f : FTy) (hf : FTy.bits f < FTy.bits .f32) (hf' : FTy.bits f < FTy.bits .bf16) (cb lo hi : BitVec 32) : FVec Ideal ⟨2, ![24576, C]⟩ .bf16 :=
  shapeCast ⟨2, ![24576, C]⟩ (mulf (extf .bf16 (gCodes h23 hr h1 hb X f hf cb lo hi) hf')
    (broadcastTo ⟨3, ![768, 32, C]⟩ (shapeCast ⟨3, ![768, 1, C]⟩ (truncf .bf16 (exp2 (gExp h23 hr X cb)) bitsLt_bf16_f32) h1) hb)) h32

theorem gMax_apply (i : (⟨2, ![768, C]⟩ : Shape).Idx) : gMax h23 hr X i = amaxN (col X (i 1).val) (i 0).val := by
  refine (reduceMid (B := 768) (N := 32) (C := C) _ hr (.inl rfl) rfl i).trans ?_
  rw [amaxN_sup]
  refine congrArg (fun f : Fin 32 → EReal => (Finset.univ : Finset (Fin 32)).sup f) (funext fun k => ?_)
  have hi0 : (i 0).val < 768 := (i 0).isLt
  have hk : 32 * (i 0).val + k.val < 24576 := by have := k.isLt; omega
  have e : gRows h23 X (ix3 (i 0) k (i 1)) = X (ix2 ⟨32 * (i 0).val + k.val, hk⟩ (i 1)) :=
    split_apply (R := 24576) (B := 768) (C := C) _ h23 _ (ix2 ⟨32 * (i 0).val + k.val, hk⟩ (i 1)) rfl rfl
  refine (congrArg (fun z : EReal => max z (-z)) e).trans ?_
  exact congrArg (fun z : EReal => max z (-z)) (rd_of X (ix2 ⟨32 * (i 0).val + k.val, hk⟩ (i 1)) rfl rfl).symm

theorem gExp_apply (cb : BitVec 32) (i : (⟨2, ![768, C]⟩ : Shape).Idx) :
    gExp h23 hr X cb i = expR (amaxN (col X (i 1).val) (i 0).val) (amaxN (col X (i 1).val) (i 0).val * Ideal.ofBits .f32 cb) := by
  rw [← gMax_apply h23 hr X i]
  unfold gExp
  generalize gMax h23 hr X = M
  rfl

theorem gScale_apply (cb : BitVec 32) (i : (⟨2, ![768, C]⟩ : Shape).Idx) :
    (exp2 (gExp h23 hr X cb) : FVec Ideal ⟨2, ![768, C]⟩ .f32) i = sR cb (col X (i 1).val) (i 0).val :=
  congrArg Ideal.exp2 (gExp_apply h23 hr X cb i)

theorem gCodes_apply (f : FTy) (hf : FTy.bits f < FTy.bits .f32) (cb lo hi : BitVec 32) (i : (⟨2, ![24576, C]⟩ : Shape).Idx) :
    gCodes h23 hr h1 hb X f hf cb lo hi (blk3 (R := 24576) (B := 768) rfl i)
      = codeN (Ideal.ofBits .f32 lo) (Ideal.ofBits .f32 hi) (iR cb (col X (i 1).val)) (col X (i 1).val) (i 0).val := by
  have e1 : gRows h23 X (blk3 (R := 24576) (B := 768) rfl i) = col X (i 1).val (i 0).val :=
    (split_blk (R := 24576) (B := 768) (C := C) rfl _ h23 i).trans (rd_of X i rfl rfl).symm
  have e2 : broadcastTo ⟨3, ![768, 32, C]⟩ (shapeCast ⟨3, ![768, 1, C]⟩
      (exp2 (subf (broadcast _ (Scalar.ofBits .f32 0x00000000#32)) (gExp h23 hr X cb)) : FVec Ideal ⟨2, ![768, C]⟩ .f32) h1) hb (blk3 (R := 24576) (B := 768) rfl i)
      = iR cb (col X (i 1).val) ((i 0).val / 32) :=
    (spread_apply (B := 768) (C := C) _ h1 hb _).trans
      (congrArg (fun z => Ideal.exp2 (Ideal.ofBits .f32 0x00000000#32 - z)) (gExp_apply h23 hr X cb _))
  exact congrArg₂ (fun a b : EReal => min (Ideal.ofBits .f32 hi) (max (Ideal.ofBits .f32 lo) (a * b))) e1 e2

theorem gHats_apply (f : FTy) (hf : FTy.bits f < FTy.bits .f32) (hf' : FTy.bits f < FTy.bits .bf16) (cb lo hi : BitVec 32) (i : (⟨2, ![24576, C]⟩ : Shape).Idx) :
    gHats h23 h32 hr h1 hb X f hf hf' cb lo hi i
      = hatN (Ideal.ofBits .f32 lo) (Ideal.ofBits .f32 hi) (iR cb (col X (i 1).val)) (sR cb (col X (i 1).val)) (col X (i 1).val) (i 0).val := by
  refine (join_blk (R := 24576) (B := 768) (C := C) rfl _ h32 i).trans ?_
  refine congrArg₂ (fun a b : EReal => a * b) (gCodes_apply h23 hr h1 hb X f hf cb lo hi i) ?_
  exact (spread_apply (B := 768) (C := C) _ h1 hb _).trans (gScale_apply h23 hr X cb _)
end

/-! ## The payloads are these -/

theorem pay_xS (X : Vec Ideal S24576x4096 .bf16) (i : S768x4096.Idx) : k0_pay9 X i = sR 0x3B124925#32 (col X (i 1).val) (i 0).val := by
  have e : k0_pay9 X = exp2 (gExp shapeCasts_S24576x4096_S768x32x4096 reduces_S768x32x4096_S768x4096
    (shapeCast S24576x4096 X shapeCasts_S24576x4096_S24576x4096) 0x3B124925#32) := rfl
  rw [e, same_apply]
  exact gScale_apply _ _ X _ i

theorem pay_dyS (Y : Vec Ideal S24576x4608 .bf16) (i : S768x4608.Idx) : k0_pay3 (k0_pay13 Y) i = sR 0x37924925#32 (col Y (i 1).val) (i 0).val := by
  have e : k0_pay3 (k0_pay13 Y) = exp2 (gExp shapeCasts_S24576x4608_S768x32x4608 reduces_S768x32x4608_S768x4608
    (shapeCast S24576x4608 Y shapeCasts_S24576x4608_S24576x4608) 0x37924925#32) := rfl
  rw [e, same_apply]
  exact gScale_apply _ _ Y _ i

theorem pay_xC (X : Vec Ideal S24576x4096 .bf16) (i : S24576x4096.Idx) :
    k0_pay11 X i = codeN (Ideal.ofBits .f32 0xC3E00000#32) (Ideal.ofBits .f32 0x43E00000#32) (iR 0x3B124925#32 (col X (i 1).val)) (col X (i 1).val) (i 0).val := by
  have e : k0_pay11 X = shapeCast S24576x4096 (gCodes shapeCasts_S24576x4096_S768x32x4096 reduces_S768x32x4096_S768x4096 shapeCasts_S768x4096_S768x1x4096
    broadcasts_S768x1x4096_S768x32x4096 (shapeCast S24576x4096 X shapeCasts_S24576x4096_S24576x4096) .fp8e4m3 bitsLt_fp8e4m3_f32 0x3B124925#32 0xC3E00000#32 0x43E00000#32)
    shapeCasts_S768x32x4096_S24576x4096 := rfl
  rw [e, same_apply]
  exact (join_blk (R := 24576) (B := 768) (C := 4096) rfl _ _ i).trans (gCodes_apply _ _ _ _ X _ _ _ _ _ i)

theorem pay_dyC (Y : Vec Ideal S24576x4608 .bf16) (i : S24576x4608.Idx) :
    k0_pay5 (k0_pay13 Y) i = codeN (Ideal.ofBits .f32 0xC7600000#32) (Ideal.ofBits .f32 0x47600000#32) (iR 0x37924925#32 (col Y (i 1).val)) (col Y (i 1).val) (i 0).val := by
  have e : k0_pay5 (k0_pay13 Y) = shapeCast S24576x4608 (gCodes shapeCasts_S24576x4608_S768x32x4608 reduces_S768x32x4608_S768x4608 shapeCasts_S768x4608_S768x1x4608
    broadcasts_S768x1x4608_S768x32x4608 (shapeCast S24576x4608 Y shapeCasts_S24576x4608_S24576x4608) .fp8e5m2 bitsLt_fp8e5m2_f32 0x37924925#32 0xC7600000#32 0x47600000#32)
    shapeCasts_S768x32x4608_S24576x4608 := rfl
  rw [e, same_apply]
  exact (join_blk (R := 24576) (B := 768) (C := 4608) rfl _ _ i).trans (gCodes_apply _ _ _ _ Y _ _ _ _ _ i)

/-- The dequantised x, row `r` of column `y`. -/
def xhR (y : ℕ → EReal) (r : ℕ) : EReal := hatN (Ideal.ofBits .f32 0xC3E00000#32) (Ideal.ofBits .f32 0x43E00000#32) (iR 0x3B124925#32 y) (sR 0x3B124925#32 y) y r
/-- The dequantised dy, row `r` of column `y`. -/
def dyhR (y : ℕ → EReal) (r : ℕ) : EReal := hatN (Ideal.ofBits .f32 0xC7600000#32) (Ideal.ofBits .f32 0x47600000#32) (iR 0x37924925#32 y) (sR 0x37924925#32 y) y r

theorem pay_dw (X : Vec Ideal S24576x4096 .bf16) (Y : Vec Ideal S24576x4608 .bf16) (i : S4096x4608.Idx) :
    k0_pay6 (k0_pay12 X) (k0_pay13 Y) i = ∑ r : Fin 24576, xhR (col X (i 0).val) r.val * dyhR (col Y (i 1).val) r.val := by
  have e : k0_pay6 (k0_pay12 X) (k0_pay13 Y) = FloatOps.matmul dot_S24576x4096_S24576x4608_S4096x4608_0_0_1_1_n_n none
    (gHats shapeCasts_S24576x4096_S768x32x4096 shapeCasts_S768x32x4096_S24576x4096 reduces_S768x32x4096_S768x4096 shapeCasts_S768x4096_S768x1x4096
      broadcasts_S768x1x4096_S768x32x4096 (shapeCast S24576x4096 X shapeCasts_S24576x4096_S24576x4096) .fp8e4m3 bitsLt_fp8e4m3_f32 bitsLt_fp8e4m3_bf16 0x3B124925#32 0xC3E00000#32 0x43E00000#32)
    (gHats shapeCasts_S24576x4608_S768x32x4608 shapeCasts_S768x32x4608_S24576x4608 reduces_S768x32x4608_S768x4608 shapeCasts_S768x4608_S768x1x4608
      broadcasts_S768x1x4608_S768x32x4608 (shapeCast S24576x4608 Y shapeCasts_S24576x4608_S24576x4608) .fp8e5m2 bitsLt_fp8e5m2_f32 bitsLt_fp8e5m2_bf16 0x37924925#32 0xC7600000#32 0x47600000#32)
    (constant S4096x4608 .f32 0x00000000#32) := rfl
  rw [e, same_apply, same_apply, Ideal.matmul_constant_zero_apply, DotDims.sum_contr₁ _ (a := 0) rfl (K := 24576) rfl]
  refine Finset.sum_congr rfl fun r _ => ?_
  rw [gHats_apply, gHats_apply]
  rfl

end Cert.ReferenceIdeal.Hand

end
-- ==== Proof.RefArrays.lean ====
module

public import proofs.«01_k».proof.Proof.RefValue

/-!
# The reference's five arrays

What its run leaves in each result array, as a function of its two operands.
-/

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.Pipeline
open Cert.KernelIdeal.Hand (rd codeN sR iR col)

variable (m : (ℓ : Loc nD τ sig) → Buf (Elt Ideal) ℓ)

/-- x, its batches one after another. -/
abbrev X2 (c : Dev nD) : FVec Ideal S24576x4096 .bf16 := V m c main_v0
/-- dy, its batches one after another. -/
abbrev Y2 (c : Dev nD) : FVec Ideal S24576x4608 .bf16 := V m c main_v1

theorem X2_eq (c : Dev nD) : X2 m c = shapeCast S24576x4096 (m ((c : Thread nD τ).loc main_arg0)) shapeCasts_S4x6144x4096_S24576x4096 := by
  show StableHlo.after hostOps0 (fun b => m (c, b)) (Proc.devRef .tc main_v0) = _
  after_results
  rfl

theorem Y2_eq (c : Dev nD) : Y2 m c = shapeCast S24576x4608 (m ((c : Thread nD τ).loc main_arg1)) shapeCasts_S4x6144x4608_S24576x4608 := by
  show StableHlo.after hostOps0 (fun b => m (c, b)) (Proc.devRef .tc main_v1) = _
  after_results
  rfl

/-! ## The results, entry by entry -/

/-- The codes of x. -/
def xCR (A : FVec Ideal S24576x4096 .bf16) : FVec Ideal S24576x4096 .fp8e4m3 := fun i =>
  codeN (Ideal.ofBits .f32 0xC3E00000#32) (Ideal.ofBits .f32 0x43E00000#32) (iR 0x3B124925#32 (col (R := 24576) (C := 4096) A (i 1).val)) (col (R := 24576) (C := 4096) A (i 1).val) (i 0).val
/-- The scales of x. -/
def xSR (A : FVec Ideal S24576x4096 .bf16) : FVec Ideal S768x4096 .f32 := fun i => sR 0x3B124925#32 (col (R := 24576) (C := 4096) A (i 1).val) (i 0).val
/-- The codes of dy. -/
def dyCR (A : FVec Ideal S24576x4608 .bf16) : FVec Ideal S24576x4608 .fp8e5m2 := fun i =>
  codeN (Ideal.ofBits .f32 0xC7600000#32) (Ideal.ofBits .f32 0x47600000#32) (iR 0x37924925#32 (col (R := 24576) (C := 4608) A (i 1).val)) (col (R := 24576) (C := 4608) A (i 1).val) (i 0).val
/-- The scales of dy. -/
def dySR (A : FVec Ideal S24576x4608 .bf16) : FVec Ideal S768x4608 .f32 := fun i => sR 0x37924925#32 (col (R := 24576) (C := 4608) A (i 1).val) (i 0).val
/-- The product of the dequantised operands. -/
def dwR (A : FVec Ideal S24576x4096 .bf16) (B : FVec Ideal S24576x4608 .bf16) : FVec Ideal S4096x4608 .f32 := fun i =>
  (∑ r : Fin 24576, xhR (col (R := 24576) (C := 4096) A (i 0).val) r.val * dyhR (col (R := 24576) (C := 4608) B (i 1).val) r.val : EReal)

theorem pay14_eq (A : FVec Ideal S24576x4096 .bf16) (B : FVec Ideal S24576x4608 .bf16) : k0_pay14 (F := Ideal) A B = k0_pay13 (F := Ideal) B := by
  unfold k0_pay14
  refine congrArg (k0_pay13 (F := Ideal)) (funext fun i => congrArg B (funext fun a => Fin.ext ?_))
  match a with
  | ⟨0, _⟩ => exact (Cert.KernelIdeal.Hand.emb_unit_val (s := S24576x4608) _ _ _ i 0).trans (Nat.zero_add _)
  | ⟨1, _⟩ => exact (Cert.KernelIdeal.Hand.emb_unit_val (s := S24576x4608) _ _ _ i 1).trans (Nat.zero_add _)

theorem out2_eq (A : FVec Ideal S24576x4096 .bf16) (B : FVec Ideal S24576x4608 .bf16) : out0_2 (F := Ideal) A B = dwR A B := by
  have e : out0_2 (F := Ideal) A B = k0_pay6 (F := Ideal) (k0_pay12 (F := Ideal) A) (k0_pay13 (F := Ideal) B) := by frame_out; rw [pay14_eq]
  rw [e]; funext i; exact pay_dw A B i
theorem out3_eq (A : FVec Ideal S24576x4096 .bf16) (B : FVec Ideal S24576x4608 .bf16) : out0_3 (F := Ideal) A B = xCR A := by
  have e : out0_3 (F := Ideal) A B = k0_pay11 (F := Ideal) A := by frame_out
  rw [e]; funext i; exact pay_xC A i
theorem out4_eq (A : FVec Ideal S24576x4096 .bf16) (B : FVec Ideal S24576x4608 .bf16) : out0_4 (F := Ideal) A B = xSR A := by
  have e : out0_4 (F := Ideal) A B = k0_pay9 (F := Ideal) A := by frame_out
  rw [e]; funext i; exact pay_xS A i
theorem out5_eq (A : FVec Ideal S24576x4096 .bf16) (B : FVec Ideal S24576x4608 .bf16) : out0_5 (F := Ideal) A B = dyCR B := by
  have e : out0_5 (F := Ideal) A B = k0_pay5 (F := Ideal) (k0_pay13 (F := Ideal) B) := by frame_out; rw [pay14_eq]
  rw [e]; funext i; exact pay_dyC B i
theorem out6_eq (A : FVec Ideal S24576x4096 .bf16) (B : FVec Ideal S24576x4608 .bf16) : out0_6 (F := Ideal) A B = dySR B := by
  have e : out0_6 (F := Ideal) A B = k0_pay3 (F := Ideal) (k0_pay13 (F := Ideal) B) := by frame_out; rw [pay14_eq]
  rw [e]; funext i; exact pay_dyS B i

/-! ## The arrays after the run -/

theorem idx0 : ∀ t : Fin cfg0.N, win0_0.index t = ![0, 0] := (by decide +kernel : ∀ t : Fin grid0.N, _)
theorem iblk0 (c : Dev nD) (t : Fin cfg0.N) : iblk m c 0 t = X2 m c := by
  have e : ∀ i : S24576x4096.Idx, ((cfg0.win 0).blk t).view.emb i = i := fun i => by
    funext a
    refine Fin.ext ?_
    match a with
    | ⟨0, _⟩ => show (((cfg0.win 0).blk t).view.emb i 0).val = (i 0).val; blk_simp [idx0]
    | ⟨1, _⟩ => show (((cfg0.win 0).blk t).view.emb i 1).val = (i 1).val; blk_simp [idx0]
  funext i
  exact congrArg (X2 m c) (e i)

theorem idx1 : ∀ t : Fin cfg0.N, win0_1.index t = ![0, 0] := (by decide +kernel : ∀ t : Fin grid0.N, _)
theorem iblk1 (c : Dev nD) (t : Fin cfg0.N) : iblk m c 1 t = Y2 m c := by
  have e : ∀ i : S24576x4608.Idx, ((cfg0.win 1).blk t).view.emb i = i := fun i => by
    funext a
    refine Fin.ext ?_
    match a with
    | ⟨0, _⟩ => show (((cfg0.win 1).blk t).view.emb i 0).val = (i 0).val; blk_simp [idx1]
    | ⟨1, _⟩ => show (((cfg0.win 1).blk t).view.emb i 1).val = (i 1).val; blk_simp [idx1]
  funext i
  exact congrArg (Y2 m c) (e i)

theorem idx2 : ∀ t : Fin cfg0.N, win0_2.index t = ![0, 0] := (by decide +kernel : ∀ t : Fin grid0.N, _)
theorem cov2 : (cfg0.win 2).Covers := by decide +kernel
theorem arr2 (c : Dev nD) : (dats m 0 c).arrAt 2 cfg0.N = dwR (X2 m c) (Y2 m c) := by
  refine (dats m 0 c).arrAt_eq_of_covers 2 _ cov2 fun t hf y => ?_
  have e : ∀ i : S4096x4608.Idx, ((cfg0.win 2).blk t).view.emb i = i := fun i => by
    funext a
    refine Fin.ext ?_
    match a with
    | ⟨0, _⟩ => show (((cfg0.win 2).blk t).view.emb i 0).val = (i 0).val; blk_simp [idx2]
    | ⟨1, _⟩ => show (((cfg0.win 2).blk t).view.emb i 1).val = (i 1).val; blk_simp [idx2]
  have h : ∀ i : S4096x4608.Idx, out0_2 (F := Ideal) (X2 m c) (Y2 m c) i = dwR (X2 m c) (Y2 m c) (((cfg0.win 2).blk t).view.emb i) := fun i => by
    rw [out2_eq]; exact congrArg (dwR (X2 m c) (Y2 m c)) (e i).symm
  refine Eq.trans ?_ (h y)
  blk_simp
  rw [after0_2, iblk0, iblk1]

theorem idx3 : ∀ t : Fin cfg0.N, win0_3.index t = ![0, 0] := (by decide +kernel : ∀ t : Fin grid0.N, _)
theorem cov3 : (cfg0.win 3).Covers := by decide +kernel
theorem arr3 (c : Dev nD) : (dats m 0 c).arrAt 3 cfg0.N = xCR (X2 m c) := by
  refine (dats m 0 c).arrAt_eq_of_covers 3 _ cov3 fun t hf y => ?_
  have e : ∀ i : S24576x4096.Idx, ((cfg0.win 3).blk t).view.emb i = i := fun i => by
    funext a
    refine Fin.ext ?_
    match a with
    | ⟨0, _⟩ => show (((cfg0.win 3).blk t).view.emb i 0).val = (i 0).val; blk_simp [idx3]
    | ⟨1, _⟩ => show (((cfg0.win 3).blk t).view.emb i 1).val = (i 1).val; blk_simp [idx3]
  have h : ∀ i : S24576x4096.Idx, out0_3 (F := Ideal) (X2 m c) (Y2 m c) i = xCR (X2 m c) (((cfg0.win 3).blk t).view.emb i) := fun i => by
    rw [out3_eq]; exact congrArg (xCR (X2 m c)) (e i).symm
  refine Eq.trans ?_ (h y)
  blk_simp
  rw [after0_3, iblk0, iblk1]

theorem idx4 : ∀ t : Fin cfg0.N, win0_4.index t = ![0, 0] := (by decide +kernel : ∀ t : Fin grid0.N, _)
theorem cov4 : (cfg0.win 4).Covers := by decide +kernel
theorem arr4 (c : Dev nD) : (dats m 0 c).arrAt 4 cfg0.N = xSR (X2 m c) := by
  refine (dats m 0 c).arrAt_eq_of_covers 4 _ cov4 fun t hf y => ?_
  have e : ∀ i : S768x4096.Idx, ((cfg0.win 4).blk t).view.emb i = i := fun i => by
    funext a
    refine Fin.ext ?_
    match a with
    | ⟨0, _⟩ => show (((cfg0.win 4).blk t).view.emb i 0).val = (i 0).val; blk_simp [idx4]
    | ⟨1, _⟩ => show (((cfg0.win 4).blk t).view.emb i 1).val = (i 1).val; blk_simp [idx4]
  have h : ∀ i : S768x4096.Idx, out0_4 (F := Ideal) (X2 m c) (Y2 m c) i = xSR (X2 m c) (((cfg0.win 4).blk t).view.emb i) := fun i => by
    rw [out4_eq]; exact congrArg (xSR (X2 m c)) (e i).symm
  refine Eq.trans ?_ (h y)
  blk_simp
  rw [after0_4, iblk0, iblk1]

theorem idx5 : ∀ t : Fin cfg0.N, win0_5.index t = ![0, 0] := (by decide +kernel : ∀ t : Fin grid0.N, _)
theorem cov5 : (cfg0.win 5).Covers := by decide +kernel
theorem arr5 (c : Dev nD) : (dats m 0 c).arrAt 5 cfg0.N = dyCR (Y2 m c) := by
  refine (dats m 0 c).arrAt_eq_of_covers 5 _ cov5 fun t hf y => ?_
  have e : ∀ i : S24576x4608.Idx, ((cfg0.win 5).blk t).view.emb i = i := fun i => by
    funext a
    refine Fin.ext ?_
    match a with
    | ⟨0, _⟩ => show (((cfg0.win 5).blk t).view.emb i 0).val = (i 0).val; blk_simp [idx5]
    | ⟨1, _⟩ => show (((cfg0.win 5).blk t).view.emb i 1).val = (i 1).val; blk_simp [idx5]
  have h : ∀ i : S24576x4608.Idx, out0_5 (F := Ideal) (X2 m c) (Y2 m c) i = dyCR (Y2 m c) (((cfg0.win 5).blk t).view.emb i) := fun i => by
    rw [out5_eq]; exact congrArg (dyCR (Y2 m c)) (e i).symm
  refine Eq.trans ?_ (h y)
  blk_simp
  rw [after0_5, iblk0, iblk1]

theorem idx6 : ∀ t : Fin cfg0.N, win0_6.index t = ![0, 0] := (by decide +kernel : ∀ t : Fin grid0.N, _)
theorem cov6 : (cfg0.win 6).Covers := by decide +kernel
theorem arr6 (c : Dev nD) : (dats m 0 c).arrAt 6 cfg0.N = dySR (Y2 m c) := by
  refine (dats m 0 c).arrAt_eq_of_covers 6 _ cov6 fun t hf y => ?_
  have e : ∀ i : S768x4608.Idx, ((cfg0.win 6).blk t).view.emb i = i := fun i => by
    funext a
    refine Fin.ext ?_
    match a with
    | ⟨0, _⟩ => show (((cfg0.win 6).blk t).view.emb i 0).val = (i 0).val; blk_simp [idx6]
    | ⟨1, _⟩ => show (((cfg0.win 6).blk t).view.emb i 1).val = (i 1).val; blk_simp [idx6]
  have h : ∀ i : S768x4608.Idx, out0_6 (F := Ideal) (X2 m c) (Y2 m c) i = dySR (Y2 m c) (((cfg0.win 6).blk t).view.emb i) := fun i => by
    rw [out6_eq]; exact congrArg (dySR (Y2 m c)) (e i).symm
  refine Eq.trans ?_ (h y)
  blk_simp
  rw [after0_6, iblk0, iblk1]

end Cert.ReferenceIdeal.Hand

end
-- ==== Proof.Good.lean ====
module

public import proofs.«01_k».proof.Proof.KernelArrays
public import proofs.«01_k».proof.Proof.RefArrays
public import proofs.«01_k».proof.Pre_scalable
public import Idealize.ShloMosaic.Lib.KernelVsHost
public import Idealize.ShloMosaic.Lib.Pointwise.Reshape

/-!
# Where the two programs' results agree

On columns whose blocks are as the precondition asks, the kernel's scales are the reference's, and so
are its codes, its dequantised values and its product.
-/

@[expose] public section

set_option maxRecDepth 16384

noncomputable section

namespace Cert.KernelIdeal.Hand

open Idealize.ShloMosaic

/-- Every block of the column fits. -/
def Good (cb : BitVec 32) (y : ℕ → EReal) : Prop := ∀ b, Fits cb (amaxN y b)

/-- On a good column the scales and their reciprocals are the reference's. -/
theorem agree {cb : BitVec 32} {c : ℝ} (hcb : Ideal.ofBits .f32 cb = (c : EReal)) (hc : 0 < c) {y : ℕ → EReal} (hy : Good cb y) :
    sK cb y = sR cb y ∧ iK cb y = iR cb y :=
  ⟨funext fun b => (scale_agree hcb hc (hy b)).1, funext fun b => (scale_agree hcb hc (hy b)).2⟩

/-- The single-precision reciprocal of 448. -/
abbrev cX : BitVec 32 := 0x3B124925#32
/-- The single-precision reciprocal of 57344. -/
abbrev cDy : BitVec 32 := 0x37924925#32

theorem agree_x {y : ℕ → EReal} (hy : Good cX y) : sK 0x3B124925#32 y = sR 0x3B124925#32 y ∧ iK 0x3B124925#32 y = iR 0x3B124925#32 y := by
  refine agree (c := 9586981 * (2 : ℝ) ^ (-32 : ℤ)) ?_ (by positivity) hy
  simp [Ideal.ofBits, Ideal.ieee, -EReal.coe_mul]

theorem agree_dy {y : ℕ → EReal} (hy : Good cDy y) : sK 0x37924925#32 y = sR 0x37924925#32 y ∧ iK 0x37924925#32 y = iR 0x37924925#32 y := by
  refine agree (c := 9586981 * (2 : ℝ) ^ (-39 : ℤ)) ?_ (by positivity) hy
  simp [Ideal.ofBits, Ideal.ieee, -EReal.coe_mul]

theorem ofBits_448 : Ideal.ofBits .f32 0x43E00000#32 = Ideal.ofBits .bf16 0x43E0#16 := by
  simp [Ideal.ofBits, Ideal.ieee, -EReal.coe_mul]; norm_num
theorem ofBits_n448 : Ideal.ofBits .f32 0xC3E00000#32 = Ideal.ofBits .bf16 0xC3E0#16 := by
  simp [Ideal.ofBits, Ideal.ieee, -EReal.coe_mul]; norm_num
theorem ofBits_57344 : Ideal.ofBits .f32 0x47600000#32 = Ideal.ofBits .bf16 0x4760#16 := by
  simp [Ideal.ofBits, Ideal.ieee, -EReal.coe_mul]; norm_num
theorem ofBits_n57344 : Ideal.ofBits .f32 0xC7600000#32 = Ideal.ofBits .bf16 0xC760#16 := by
  simp [Ideal.ofBits, Ideal.ieee, -EReal.coe_mul]; norm_num

theorem ofBits_lo : Ideal.ofBits .f32 0x00800000#32 = (((2 : ℝ) ^ (-126 : ℤ) : ℝ) : EReal) :=
  val_enc (k := 1) (by norm_num) (by norm_num)
theorem ofBits_hi : Ideal.ofBits .f32 0x7E800000#32 = (((2 : ℝ) ^ (126 : ℤ) : ℝ) : EReal) :=
  val_enc (k := 253) (by norm_num) (by norm_num)

/-- What the precondition's test of one block says. -/
theorem test_block {cb : BitVec 32} {a : EReal}
    (h : Ideal.cmp .oeq a (Ideal.ofBits .f32 0x00000000#32)
      ||| (Ideal.cmp .oge (a * Ideal.ofBits .f32 cb) (Ideal.ofBits .f32 0x00800000#32) &&& Ideal.cmp .olt (a * Ideal.ofBits .f32 cb) (Ideal.ofBits .f32 0x7E800000#32))
      = 1#1) : Fits cb a := by
  rw [Ideal.ofBits_zero_f32, ofBits_lo, ofBits_hi] at h
  unfold Ideal.cmp at h
  by_cases h0 : a = 0
  · exact .inl h0
  refine .inr ?_
  generalize a * Ideal.ofBits .f32 cb = q at h ⊢
  generalize (((2 : ℝ) ^ (-126 : ℤ) : ℝ) : EReal) = lo at h ⊢
  generalize (((2 : ℝ) ^ (126 : ℤ) : ℝ) : EReal) = hi at h ⊢
  by_cases h1 : lo ≤ q <;> by_cases h2 : q < hi <;> simp_all

/-- The same of every block at once. -/
theorem test_blocks {cb : BitVec 32} {s : Shape} (M : FVec Ideal s .f32) (hb : (⟨0, ![]⟩ : Shape).BroadcastsInDim s (![] : Fin 0 → Fin s.rank))
    (h : ori (cmpf .oeq M (broadcastInDim s ![] hb (constant ⟨0, ![]⟩ .f32 0x00000000#32)))
      (andi (cmpf .oge (mulf M (broadcastInDim s ![] hb (constant ⟨0, ![]⟩ .f32 cb))) (broadcastInDim s ![] hb (constant ⟨0, ![]⟩ .f32 0x00800000#32)))
        (cmpf .olt (mulf M (broadcastInDim s ![] hb (constant ⟨0, ![]⟩ .f32 cb))) (broadcastInDim s ![] hb (constant ⟨0, ![]⟩ .f32 0x7E800000#32))))
      = fun _ => 1#1) (i : s.Idx) : Fits cb (M i) :=
  test_block (congrFun h i)

/-! ## From the precondition to the columns -/

section
variable {C : ℕ} {cb : BitVec 32} (A : (⟨2, ![24576, C]⟩ : Shape).Idx → EReal)

/-- A column of a matrix is good when the blocks inside the matrix fit: all else reads as zero. -/
theorem good_col (h : ∀ i : (⟨2, ![768, C]⟩ : Shape).Idx, Fits cb (amaxN (col A (i 1).val) (i 0).val)) (q : ℕ) : Good cb (col A q) := by
  intro b
  by_cases hb : b < 768 ∧ q < C
  · exact h (ix2 ⟨b, hb.1⟩ ⟨q, hb.2⟩)
  · left
    obtain ⟨k, hk⟩ := amaxN_mem (col A q) b
    have hz : col A q (32 * b + k.val) = 0 := dif_neg fun hh => hb ⟨by omega, hh.2⟩
    rw [hk, hz]; simp
end

section
variable {C : ℕ} (h1 : (⟨3, ![4, 6144, C]⟩ : Shape).ShapeCasts ⟨3, ![768, 32, C]⟩) (h2 : (⟨3, ![4, 6144, C]⟩ : Shape).ShapeCasts ⟨2, ![24576, C]⟩)
  (h23 : (⟨2, ![24576, C]⟩ : Shape).ShapeCasts ⟨3, ![768, 32, C]⟩) (ht : (⟨3, ![768, 32, C]⟩ : Shape).ReducesTo [1] ⟨2, ![768, C]⟩)
  (hr : (⟨3, ![768, 32, C]⟩ : Shape).Reduces [1] ⟨2, ![768, C]⟩) (hu : 0 < (⟨0, ![]⟩ : Shape).numel)
  (x : FVec Ideal ⟨3, ![4, 6144, C]⟩ .bf16)

include h23 hr in
/-- The greatest magnitudes that the precondition computes are those of the blocks of the matrix. -/
theorem pre_max (i : (⟨2, ![768, C]⟩ : Shape).Idx) :
    (Host.reduce FloatOps.maximumf (Host.absf (shapeCast ⟨3, ![768, 32, C]⟩ (extf .f32 x Cert.ReferenceIdeal.Facts₀.bitsLt_bf16_f32) h1) : FVec Ideal ⟨3, ![768, 32, C]⟩ .f32)
      (constant ⟨0, ![]⟩ .f32 0xFF800000#32) ht hu : FVec Ideal ⟨2, ![768, C]⟩ .f32) i
    = amaxN (col (shapeCast ⟨2, ![24576, C]⟩ x h2) (i 1).val) (i 0).val := by
  refine Eq.trans ?_ (Cert.ReferenceIdeal.Hand.gMax_apply h23 hr (shapeCast ⟨2, ![24576, C]⟩ x h2) i)
  have e := hostReduce_maximumf_eq_multiReduction (F := Ideal) (φ := .f32)
    (Host.absf (shapeCast ⟨3, ![768, 32, C]⟩ (extf .f32 x Cert.ReferenceIdeal.Facts₀.bitsLt_bf16_f32) h1) : FVec Ideal ⟨3, ![768, 32, C]⟩ .f32)
    0xFF800000#32 ht hu hr (.inl rfl) rfl
  refine (congrFun e i).trans ?_
  have e2 : (Host.absf (shapeCast ⟨3, ![768, 32, C]⟩ (extf .f32 x Cert.ReferenceIdeal.Facts₀.bitsLt_bf16_f32) h1) : FVec Ideal ⟨3, ![768, 32, C]⟩ .f32)
      = absf (Cert.ReferenceIdeal.Hand.gRows h23 (shapeCast ⟨2, ![24576, C]⟩ x h2)) := by
    have e3 : shapeCast ⟨3, ![768, 32, C]⟩ (shapeCast ⟨2, ![24576, C]⟩ x h2) h23 = shapeCast ⟨3, ![768, 32, C]⟩ x h1 := shapeCast_comp _ _ _
    exact congrArg (fun z : (⟨3, ![768, 32, C]⟩ : Shape).Idx → EReal => fun j => max (z j) (-(z j))) e3.symm
  unfold Cert.ReferenceIdeal.Hand.gMax
  rw [e2]
end

section
open Cert.ReferenceIdeal.Gen
variable [Cert.Pre_scalable.Facts] (x : FVec Ideal Cert.Pre_scalable.S4x6144x4096 .bf16) (y : FVec Ideal Cert.Pre_scalable.S4x6144x4608 .bf16)

/-- Under the precondition every block of x fits. -/
theorem pre_x (h : (Cert.Pre_scalable.fn x y).1 = fun _ => 1#1) (i : Cert.Pre_scalable.S768x4096.Idx) :
    Fits cX (amaxN (col (R := 24576) (C := 4096) (shapeCast _ x Cert.KernelIdeal.Facts₀.shapeCasts_S4x6144x4096_S24576x4096) (i 1).val) (i 0).val) := by
  rw [← pre_max Cert.Pre_scalable.Facts.shapeCasts_S4x6144x4096_S768x32x4096 _ Cert.ReferenceIdeal.Facts₀.shapeCasts_S24576x4096_S768x32x4096
    Cert.Pre_scalable.Facts.reducesTo_S768x32x4096_S768x4096_d1 Cert.ReferenceIdeal.Facts₀.reduces_S768x32x4096_S768x4096 Cert.Pre_scalable.Facts.h_S_ x i]
  exact test_blocks _ Cert.Pre_scalable.Facts.bcast_S_S768x4096 h i

/-- Under the precondition every block of dy fits. -/
theorem pre_dy (h : (Cert.Pre_scalable.fn x y).2 = fun _ => 1#1) (i : Cert.Pre_scalable.S768x4608.Idx) :
    Fits cDy (amaxN (col (R := 24576) (C := 4608) (shapeCast _ y Cert.KernelIdeal.Facts₀.shapeCasts_S4x6144x4608_S24576x4608) (i 1).val) (i 0).val) := by
  rw [← pre_max Cert.Pre_scalable.Facts.shapeCasts_S4x6144x4608_S768x32x4608 _ Cert.ReferenceIdeal.Facts₀.shapeCasts_S24576x4608_S768x32x4608
    Cert.Pre_scalable.Facts.reducesTo_S768x32x4608_S768x4608_d1 Cert.ReferenceIdeal.Facts₀.reduces_S768x32x4608_S768x4608 Cert.Pre_scalable.Facts.h_S_ y i]
  exact test_blocks _ Cert.Pre_scalable.Facts.bcast_S_S768x4608 h i
end

/-! ## The results agree -/

section
open Cert.KernelIdeal
variable {A : FVec Ideal S24576x4096 .bf16} {B : FVec Ideal S24576x4608 .bf16}

theorem xS_same (hA : ∀ q, Good cX (col (R := 24576) (C := 4096) A q)) : Cert.ReferenceIdeal.Hand.xSR A = xSK A := by
  funext i
  exact (congrFun (agree_x (hA (i 1).val)).1 _).symm
theorem xC_same (hA : ∀ q, Good cX (col (R := 24576) (C := 4096) A q)) : Cert.ReferenceIdeal.Hand.xCR A = xCK A := by
  funext i
  unfold Cert.ReferenceIdeal.Hand.xCR xCK
  rw [ofBits_448, ofBits_n448, (agree_x (hA (i 1).val)).2]
theorem dyS_same (hB : ∀ q, Good cDy (col (R := 24576) (C := 4608) B q)) : Cert.ReferenceIdeal.Hand.dySR B = dySK B := by
  funext i
  exact (congrFun (agree_dy (hB (i 1).val)).1 _).symm
theorem dyC_same (hB : ∀ q, Good cDy (col (R := 24576) (C := 4608) B q)) : Cert.ReferenceIdeal.Hand.dyCR B = dyCK B := by
  funext i
  unfold Cert.ReferenceIdeal.Hand.dyCR dyCK
  rw [ofBits_57344, ofBits_n57344, (agree_dy (hB (i 1).val)).2]
theorem dw_same (hA : ∀ q, Good cX (col (R := 24576) (C := 4096) A q)) (hB : ∀ q, Good cDy (col (R := 24576) (C := 4608) B q)) :
    Cert.ReferenceIdeal.Hand.dwR A B = dwK A B := by
  funext i
  unfold Cert.ReferenceIdeal.Hand.dwR dwK
  refine Finset.sum_congr rfl fun r _ => ?_
  unfold term xhK dyhK Cert.ReferenceIdeal.Hand.xhR Cert.ReferenceIdeal.Hand.dyhR
  rw [ofBits_448, ofBits_n448, ofBits_57344, ofBits_n57344, (agree_x (hA (i 0).val)).1, (agree_x (hA (i 0).val)).2,
    (agree_dy (hB (i 1).val)).1, (agree_dy (hB (i 1).val)).2]
end

end Cert.KernelIdeal.Hand

end
-- ==== Proof.lean ====
module

public import proofs.«01_k».proof.Defs
public import proofs.«01_k».proof.Proof.Gen.Kernel
public import proofs.«01_k».proof.Proof.Gen.ReferenceIdeal.Value
public import proofs.«01_k».proof.Proof.KernelFrame
public import proofs.«01_k».proof.Proof.Good

@[expose] public section

set_option maxRecDepth 16384

noncomputable section

namespace Cert.Proof

open Idealize.ShloMosaic Idealize.ShloMosaic.TcCoe Idealize.SL.Sem
open Cert.KernelIdeal.Hand

/-- The shape facts of the precondition's operations. -/
theorem preFacts : Cert.Pre_scalable.Facts := ⟨by decide, by decide, by decide, by decide, by decide, by decide, by decide, by decide⟩

section
open Cert.KernelIdeal
variable (m : (ℓ : Loc nD τ sig) → Buf (Elt Ideal) ℓ)

/-- x as the kernel takes it. -/
theorem X2_eq (c : Dev nD) : X2 m c = shapeCast S24576x4096 (m ((c : Thread nD τ).loc main_arg0)) Facts₀.shapeCasts_S4x6144x4096_S24576x4096 := by
  show StableHlo.after Cert.KernelIdeal.Gen.hostOps0 (fun b => m (c, b)) (Proc.devRef .tc main_v0) = _
  after_results
  rfl

/-- dy as the kernel takes it. -/
theorem Y2_eq (c : Dev nD) : Y2 m c = shapeCast S24576x4608 (m ((c : Thread nD τ).loc main_arg1)) Facts₀.shapeCasts_S4x6144x4608_S24576x4608 := by
  show StableHlo.after Cert.KernelIdeal.Gen.hostOps0 (fun b => m (c, b)) (Proc.devRef .tc main_v1) = _
  after_results
  rfl

/-- Under the precondition the columns of x are good. -/
theorem good_x (h : @Pre_KernelIdeal_scalable preFacts m) (c : Dev nD) (q : ℕ) : Good cX (col (R := 24576) (C := 4096) (X2 m c) q) := by
  refine good_col (C := 4096) (X2 m c) (fun i => ?_) q
  rw [X2_eq]
  exact @pre_x preFacts _ _ (h c).1 i

/-- Under the precondition the columns of dy are good. -/
theorem good_dy (h : @Pre_KernelIdeal_scalable preFacts m) (c : Dev nD) (q : ℕ) : Good cDy (col (R := 24576) (C := 4608) (Y2 m c) q) := by
  refine good_col (C := 4608) (Y2 m c) (fun i => ?_) q
  rw [Y2_eq]
  exact @pre_dy preFacts _ _ (h c).2 i

/-- The kernel's run leaves its five results at these functions of its operands. -/
theorem kernel_run (g : Dev nD → PrngReg) : θ_run (defs (F := Ideal)) (onTc (τ := τ) (main (F := Ideal))) ⟨m, fun _ => 0, g⟩ (fun r => ∀ c : Dev nD,
    r.2.mem ((c : Thread nD τ).loc main_v2_0) = dwK (X2 m c) (Y2 m c)
    ∧ r.2.mem ((c : Thread nD τ).loc main_v2_1) = xCK (X2 m c)
    ∧ r.2.mem ((c : Thread nD τ).loc main_v2_2) = xSK (X2 m c)
    ∧ r.2.mem ((c : Thread nD τ).loc main_v2_3) = dyCK (Y2 m c)
    ∧ r.2.mem ((c : Thread nD τ).loc main_v2_4) = dySK (Y2 m c)
    ∧ r.2.mem ((c : Thread nD τ).loc main_arg0) = m ((c : Thread nD τ).loc main_arg0)
    ∧ r.2.mem ((c : Thread nD τ).loc main_arg1) = m ((c : Thread nD τ).loc main_arg1)) := by
  refine (θ_run defs _ _).mono ?_ (run_main m g)
  rintro r ⟨h, -⟩ c
  have h0 : main_arg0 ∈ Pipeline.restRefs sig spec0 \ R0 := by decide
  have h1 : main_arg1 ∈ Pipeline.restRefs sig spec0 \ R0 := by decide
  have h2 : main_v2_0 ∈ R0 := by decide
  refine ⟨(h.2 c main_v2_0 h2).trans ?_, ((h.1 c).1 2).trans (arr2 m c), ((h.1 c).1 3).trans (arr3 m c), ((h.1 c).1 4).trans (arr4 m c),
    ((h.1 c).1 5).trans (arr5 m c), ((h.1 c).2 main_arg0 h0).trans (Cert.KernelIdeal.Gen.V_main_arg0 m c), ((h.1 c).2 main_arg1 h1).trans (Cert.KernelIdeal.Gen.V_main_arg1 m c)⟩
  unfold G
  rw [Function.update_self]
  exact dwFull_eq m c
end

/-- The kernel and the reference end with equal results. -/
theorem algebraic : @algebraic_KernelIdeal_ReferenceIdeal_pre_scalable Cert.KernelIdeal.Gen.facts Cert.ReferenceIdeal.Gen.facts preFacts := by
  intro m g m' g' hpre hargs
  refine ⟨fun c => dwK (X2 m c) (Y2 m c), fun c => xCK (X2 m c), fun c => xSK (X2 m c), fun c => dyCK (Y2 m c), fun c => dySK (Y2 m c), kernel_run m g, ?_⟩
  refine (θ_run Cert.ReferenceIdeal.defs _ _).mono ?_ (Cert.ReferenceIdeal.Value.run_blocks m' g')
  intro r h c
  obtain ⟨h0, h1, h2, h3, h4, h5, h6⟩ := h c
  have eX : Cert.ReferenceIdeal.Hand.X2 m' c = X2 m c := by
    rw [Cert.ReferenceIdeal.Hand.X2_eq, X2_eq, (hargs c).1]
  have eY : Cert.ReferenceIdeal.Hand.Y2 m' c = Y2 m c := by
    rw [Cert.ReferenceIdeal.Hand.Y2_eq, Y2_eq, (hargs c).2]
  have gX := good_x m hpre c
  have gY := good_dy m hpre c
  refine ⟨h0.trans ((Cert.ReferenceIdeal.Hand.arr2 m' c).trans ?_), h1.trans ((Cert.ReferenceIdeal.Hand.arr3 m' c).trans ?_),
    h2.trans ((Cert.ReferenceIdeal.Hand.arr4 m' c).trans ?_), h3.trans ((Cert.ReferenceIdeal.Hand.arr5 m' c).trans ?_),
    h4.trans ((Cert.ReferenceIdeal.Hand.arr6 m' c).trans ?_), h5, h6⟩
  · rw [eX, eY]; exact dw_same gX gY
  · rw [eX]; exact xC_same gX
  · rw [eX]; exact xS_same gX
  · rw [eY]; exact dyC_same gY
  · rw [eY]; exact dyS_same gY

theorem claim : Cert.Claim :=
  ⟨Cert.Kernel.Gen.facts, Cert.KernelIdeal.Gen.facts, Cert.ReferenceIdeal.Gen.facts, preFacts,
    fun m g _ => Cert.KernelIdeal.Hand.frameKernel (F := Bits) m g,
    fun m g _ => Cert.KernelIdeal.Hand.frame (F := Ideal) m g,
    fun m g _ => Cert.KernelIdeal.Hand.frame (F := Ideal) m g,
    fun m g _ => Cert.ReferenceIdeal.Gen.frame (F := Ideal) m g,
    fun m g _ => Cert.ReferenceIdeal.Gen.frame (F := Ideal) m g,
    trivial,
    algebraic⟩

end Cert.Proof

end
